-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_qkc [hPre_finite_qkc : Cert.Pre_finite_qkc.Facts] (m : (ℓ : Loc Cert.FoxIdeal.nD Cert.FoxIdeal.τ Cert.FoxIdeal.sig) → Buf (Elt Ideal) ℓ) : Prop :=
  ∀ c : Dev Cert.FoxIdeal.nD,
    (Cert.Pre_finite_qkc.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_finite_qkc.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_finite_qkc.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_qkc [hPre_finite_qkc : Cert.Pre_finite_qkc.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_qkc.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_finite_qkc.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_finite_qkc.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_qkc [hFoxIdeal : Cert.FoxIdeal.Facts] [hPre_finite_qkc : Cert.Pre_finite_qkc.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_qkc m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_qkc [hFoxRefIdeal : Cert.FoxRefIdeal.Facts] [hPre_finite_qkc : Cert.Pre_finite_qkc.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_qkc m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_qkc [hFoxIdeal : Cert.FoxIdeal.Facts] [hFoxRefIdeal : Cert.FoxRefIdeal.Facts] [hPre_finite_qkc : Cert.Pre_finite_qkc.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_qkc m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v44)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v44) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v30) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v16)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v16) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v84) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def Claim : Prop :=
  ∃ (hFox : Cert.Fox.Facts) (hFoxIdeal : Cert.FoxIdeal.Facts) (hFoxRefIdeal : Cert.FoxRefIdeal.Facts) (hTail : Cert.Tail.Facts) (hTailIdeal : Cert.TailIdeal.Facts) (hTailRefIdeal : Cert.TailRefIdeal.Facts) (hPre_finite_qkc : Cert.Pre_finite_qkc.Facts),
    quiescent_Fox (hFox := hFox)
    ∧ quiescent_FoxIdeal (hFoxIdeal := hFoxIdeal)
    ∧ quiescent_FoxIdeal_pre_finite_qkc (hFoxIdeal := hFoxIdeal) (hPre_finite_qkc := hPre_finite_qkc)
    ∧ quiescent_FoxRefIdeal (hFoxRefIdeal := hFoxRefIdeal)
    ∧ quiescent_FoxRefIdeal_pre_finite_qkc (hFoxRefIdeal := hFoxRefIdeal) (hPre_finite_qkc := hPre_finite_qkc)
    ∧ quiescent_Tail (hTail := hTail)
    ∧ quiescent_TailIdeal (hTailIdeal := hTailIdeal)
    ∧ quiescent_TailRefIdeal (hTailRefIdeal := hTailRefIdeal)
    ∧ preserves_Fox_FoxIdeal
    ∧ algebraic_FoxIdeal_FoxRefIdeal_pre_finite_qkc (hFoxIdeal := hFoxIdeal) (hFoxRefIdeal := hFoxRefIdeal) (hPre_finite_qkc := hPre_finite_qkc)
    ∧ preserves_Tail_TailIdeal
    ∧ algebraic_TailIdeal_TailRefIdeal (hTailIdeal := hTailIdeal) (hTailRefIdeal := hTailRefIdeal)
-- ==== Pre_finite_qkc.lean ====
abbrev S4x8192x8x64 : Shape := ⟨4, ![4, 8192, 8, 64]⟩
abbrev S4x8x8192 : Shape := ⟨3, ![4, 8, 8192]⟩
abbrev S_ : Shape := ⟨0, ![]⟩

class Facts : Prop where
  bcast_S_S4x8192x8x64 : S_.BroadcastsInDim S4x8192x8x64 (![] : Fin 0 → Fin S4x8192x8x64.rank)
  bcast_S_S4x8x8192 : S_.BroadcastsInDim S4x8x8192 (![] : Fin 0 → Fin S4x8x8192.rank)

variable [Facts]

def fn {F : FTy → Type} [FloatOps F] (main_arg0 : FVec F S4x8192x8x64 .f32) (main_arg1 : FVec F S4x8192x8x64 .f32) (main_arg2 : FVec F S4x8192x8x64 .f32) (main_arg3 : FVec F S4x8x8192 .f32) : IVec S4x8192x8x64 1 × IVec S4x8192x8x64 1 × IVec S4x8x8192 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_v3 : FVec F S4x8192x8x64 .f32 := Host.absf main_arg1
  let main_cst_0 : FVec F S_ .f32 := constant S_ .f32 0x7F800000#32
  let main_v4 : FVec F S4x8192x8x64 .f32 := broadcastInDim S4x8192x8x64 ![] bcast_S_S4x8192x8x64 main_cst_0
  let main_v5 : IVec S4x8192x8x64 1 := cmpf .olt main_v3 main_v4
  let main_v6 : FVec F S4x8x8192 .f32 := Host.absf main_arg3
  let main_cst_1 : FVec F S_ .f32 := constant S_ .f32 0x7F800000#32
  let main_v7 : FVec F S4x8x8192 .f32 := broadcastInDim S4x8x8192 ![] bcast_S_S4x8x8192 main_cst_1
  let main_v8 : IVec S4x8x8192 1 := cmpf .olt main_v6 main_v7
  (main_v2, main_v5, main_v8)
-- ==== Fox.lean ====
abbrev S4x8192x8x64 : Shape := ⟨4, ![4, 8192, 8, 64]⟩
abbrev S4x8x8192 : Shape := ⟨3, ![4, 8, 8192]⟩
abbrev S_ : Shape := ⟨0, ![]⟩
abbrev S4x8x8192x64 : Shape := ⟨4, ![4, 8, 8192, 64]⟩
abbrev S4x8x8192x1 : Shape := ⟨4, ![4, 8, 8192, 1]⟩
abbrev S4x8x8192x58 : Shape := ⟨4, ![4, 8, 8192, 58]⟩
abbrev S4x8x8192x128 : Shape := ⟨4, ![4, 8, 8192, 128]⟩
abbrev S4x8x64x8192 : Shape := ⟨4, ![4, 8, 64, 8192]⟩
abbrev S4x8x1x8192 : Shape := ⟨4, ![4, 8, 1, 8192]⟩
abbrev S4x8x58x8192 : Shape := ⟨4, ![4, 8, 58, 8192]⟩
abbrev S4x8x128x8192 : Shape := ⟨4, ![4, 8, 128, 8192]⟩
abbrev S4x8x16x8192 : Shape := ⟨4, ![4, 8, 16, 8192]⟩
abbrev S4x8x80x8192 : Shape := ⟨4, ![4, 8, 80, 8192]⟩
abbrev S4x8x80x32x256 : Shape := ⟨5, ![4, 8, 80, 32, 256]⟩
abbrev S4x8x32x80x256 : Shape := ⟨5, ![4, 8, 32, 80, 256]⟩
abbrev S4x8x32x256x128 : Shape := ⟨5, ![4, 8, 32, 256, 128]⟩
abbrev S4x512x8192 : Shape := ⟨3, ![4, 512, 8192]⟩
abbrev S1x4x32x256x128 : Shape := ⟨5, ![1, 4, 32, 256, 128]⟩
abbrev S1x4x128x512 : Shape := ⟨4, ![1, 4, 128, 512]⟩
abbrev S1x4x32x80x256 : Shape := ⟨5, ![1, 4, 32, 80, 256]⟩
abbrev S1x256x512 : Shape := ⟨3, ![1, 256, 512]⟩
abbrev S4x256x512 : Shape := ⟨3, ![4, 256, 512]⟩
abbrev S1x1x128x512 : Shape := ⟨4, ![1, 1, 128, 512]⟩
abbrev S128x512 : Shape := ⟨2, ![128, 512]⟩
abbrev S1x512 : Shape := ⟨2, ![1, 512]⟩
abbrev S80x512 : Shape := ⟨2, ![80, 512]⟩
abbrev S1x1x1x256x128 : Shape := ⟨5, ![1, 1, 1, 256, 128]⟩
abbrev S256x128 : Shape := ⟨2, ![256, 128]⟩
abbrev S256x512 : Shape := ⟨2, ![256, 512]⟩
abbrev S512 : Shape := ⟨1, ![512]⟩
abbrev S1x1x1x80x256 : Shape := ⟨5, ![1, 1, 1, 80, 256]⟩
abbrev S80x256 : Shape := ⟨2, ![80, 256]⟩
abbrev S64x512 : Shape := ⟨2, ![64, 512]⟩
abbrev S1x64x512 : Shape := ⟨3, ![1, 64, 512]⟩

abbrev nBuf : Space → Nat
  | .hbm => 57
  | .vmem => 9
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8x8192, .f32⟩
  | .hbm, ⟨9, _⟩ => ⟨S4x8x8192, .f32⟩
  | .hbm, ⟨10, _⟩ => ⟨S4x8x8192, .bf16⟩
  | .hbm, ⟨11, _⟩ => ⟨S4x8x8192, .f32⟩
  | .hbm, ⟨12, _⟩ => ⟨S4x8x8192, .f32⟩
  | .hbm, ⟨13, _⟩ => ⟨S4x8x8192, .bf16⟩
  | .hbm, ⟨14, _⟩ => ⟨S4x8x8192, .f32⟩
  | .hbm, ⟨15, _⟩ => ⟨S4x8x8192, .f32⟩
  | .hbm, ⟨16, _⟩ => ⟨S4x8x8192, .bf16⟩
  | .hbm, ⟨17, _⟩ => ⟨S_, .bf16⟩
  | .hbm, ⟨18, _⟩ => ⟨S4x8x8192, .bf16⟩
  | .hbm, ⟨19, _⟩ => ⟨S_, .bf16⟩
  | .hbm, ⟨20, _⟩ => ⟨S4x8x8192, .bf16⟩
  | .hbm, ⟨21, _⟩ => ⟨S4x8x8192x64, .f32⟩
  | .hbm, ⟨22, _⟩ => ⟨S4x8x8192x64, .bf16⟩
  | .hbm, ⟨23, _⟩ => ⟨S4x8x8192x1, .bf16⟩
  | .hbm, ⟨24, _⟩ => ⟨S4x8x8192x1, .bf16⟩
  | .hbm, ⟨25, _⟩ => ⟨S4x8x8192x1, .bf16⟩
  | .hbm, ⟨26, _⟩ => ⟨S4x8x8192x1, .bf16⟩
  | .hbm, ⟨27, _⟩ => ⟨S4x8x8192x1, .bf16⟩
  | .hbm, ⟨28, _⟩ => ⟨S4x8x8192x1, .bf16⟩
  | .hbm, ⟨29, _⟩ => ⟨S_, .bf16⟩
  | .hbm, ⟨30, _⟩ => ⟨S4x8x8192x58, .bf16⟩
  | .hbm, ⟨31, _⟩ => ⟨S4x8x8192x128, .bf16⟩
  | .hbm, ⟨32, _⟩ => ⟨S_, .f32⟩
  | .hbm, ⟨33, _⟩ => ⟨S4x8192x8x64, .f32⟩
  | .hbm, ⟨34, _⟩ => ⟨S4x8192x8x64, .f32⟩
  | .hbm, ⟨35, _⟩ => ⟨S4x8192x8x64, .f32⟩
  | .hbm, ⟨36, _⟩ => ⟨S4x8192x8x64, .f32⟩
  | .hbm, ⟨37, _⟩ => ⟨S4x8x64x8192, .f32⟩
  | .hbm, ⟨38, _⟩ => ⟨S4x8x64x8192, .bf16⟩
  | .hbm, ⟨39, _⟩ => ⟨S4x8x1x8192, .bf16⟩
  | .hbm, ⟨40, _⟩ => ⟨S4x8x1x8192, .bf16⟩
  | .hbm, ⟨41, _⟩ => ⟨S4x8x1x8192, .bf16⟩
  | .hbm, ⟨42, _⟩ => ⟨S4x8x1x8192, .bf16⟩
  | .hbm, ⟨43, _⟩ => ⟨S4x8x1x8192, .bf16⟩
  | .hbm, ⟨44, _⟩ => ⟨S4x8x1x8192, .bf16⟩
  | .hbm, ⟨45, _⟩ => ⟨S_, .bf16⟩
  | .hbm, ⟨46, _⟩ => ⟨S4x8x58x8192, .bf16⟩
  | .hbm, ⟨47, _⟩ => ⟨S4x8x128x8192, .bf16⟩
  | .hbm, ⟨48, _⟩ => ⟨S4x8x64x8192, .f32⟩
  | .hbm, ⟨49, _⟩ => ⟨S4x8x64x8192, .bf16⟩
  | .hbm, ⟨50, _⟩ => ⟨S_, .bf16⟩
  | .hbm, ⟨51, _⟩ => ⟨S4x8x16x8192, .bf16⟩
  | .hbm, ⟨52, _⟩ => ⟨S4x8x80x8192, .bf16⟩
  | .hbm, ⟨53, _⟩ => ⟨S4x8x80x32x256, .bf16⟩
  | .hbm, ⟨54, _⟩ => ⟨S4x8x32x80x256, .bf16⟩
  | .hbm, ⟨55, _⟩ => ⟨S4x8x32x256x128, .bf16⟩
  | .hbm, ⟨56, _⟩ => ⟨S4x512x8192, .f32⟩
  | .local _ .vmem, ⟨0, _⟩ => ⟨S1x4x32x256x128, .bf16⟩
  | .local _ .vmem, ⟨1, _⟩ => ⟨S1x4x128x512, .bf16⟩
  | .local _ .vmem, ⟨2, _⟩ => ⟨S1x4x128x512, .bf16⟩
  | .local _ .vmem, ⟨3, _⟩ => ⟨S1x4x32x80x256, .bf16⟩
  | .local _ .vmem, ⟨4, _⟩ => ⟨S1x4x32x80x256, .bf16⟩
  | .local _ .vmem, ⟨5, _⟩ => ⟨S1x256x512, .f32⟩
  | .local _ .vmem, ⟨6, _⟩ => ⟨S1x256x512, .f32⟩
  | .local _ .vmem, ⟨7, _⟩ => ⟨S4x256x512, .f32⟩
  | .local _ .vmem, ⟨8, _⟩ => ⟨S4x256x512, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 16], ![false, false, false]⟩

@[reducible] def k0_t1_loop (i : grid0.Coords) : Scf.Loop 32 :=
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_61 : BitVec 32 := 1#32
  ⟨c0_i32_59, v61, c1_i32_61⟩
def k0_off1 (i : grid0.Coords) (k0_t1 : Fin (k0_t1_loop i).trips) (c1_i32_204 : BitVec 32) : Fin 5 → Nat :=
  let c0_205 : Index := 0#32
  let c0_206 : Index := 0#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v320 : BitVec 32 := Scalar.addi v319 c1_i32_204
  let v321 : Index := Scalar.indexCast v320
  let c0_207 : Index := 0#32
  let c0_208 : Index := 0#32
  ![0, 0, v321.toNat, 0, 0]
def k0_off2 (i : grid0.Coords) (k0_t1 : Fin (k0_t1_loop i).trips) (c1_i32_204 : BitVec 32) : Fin 5 → Nat :=
  let c0_213 : Index := 0#32
  let c1_214 : Index := 1#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v320 : BitVec 32 := Scalar.addi v319 c1_i32_204
  let v328 : Index := Scalar.indexCast v320
  let c0_215 : Index := 0#32
  let c0_216 : Index := 0#32
  ![0, 1, v328.toNat, 0, 0]
def k0_off3 (i : grid0.Coords) (k0_t1 : Fin (k0_t1_loop i).trips) (c1_i32_204 : BitVec 32) : Fin 5 → Nat :=
  let c0_221 : Index := 0#32
  let c2_222 : Index := 2#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v320 : BitVec 32 := Scalar.addi v319 c1_i32_204
  let v335 : Index := Scalar.indexCast v320
  let c0_223 : Index := 0#32
  let c0_224 : Index := 0#32
  ![0, 2, v335.toNat, 0, 0]
def k0_off4 (i : grid0.Coords) (k0_t1 : Fin (k0_t1_loop i).trips) (c1_i32_204 : BitVec 32) : Fin 5 → Nat :=
  let c0_229 : Index := 0#32
  let c3_230 : Index := 3#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v320 : BitVec 32 := Scalar.addi v319 c1_i32_204
  let v342 : Index := Scalar.indexCast v320
  let c0_231 : Index := 0#32
  let c0_232 : Index := 0#32
  ![0, 3, v342.toNat, 0, 0]
def k0_off5 (i : grid0.Coords) (k0_t1 : Fin (k0_t1_loop i).trips) : Fin 5 → Nat :=
  let c0_253 : Index := 0#32
  let c0_254 : Index := 0#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v395 : Index := Scalar.indexCast v319
  let c0_255 : Index := 0#32
  let c0_256 : Index := 0#32
  ![0, 0, v395.toNat, 0, 0]
def k0_off6 (i : grid0.Coords) (k0_t1 : Fin (k0_t1_loop i).trips) : Fin 5 → Nat :=
  let c0_258 : Index := 0#32
  let c1_259 : Index := 1#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v402 : Index := Scalar.indexCast v319
  let c0_260 : Index := 0#32
  let c0_261 : Index := 0#32
  ![0, 1, v402.toNat, 0, 0]
def k0_off7 (i : grid0.Coords) (k0_t1 : Fin (k0_t1_loop i).trips) : Fin 5 → Nat :=
  let c0_263 : Index := 0#32
  let c2_264 : Index := 2#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v409 : Index := Scalar.indexCast v319
  let c0_265 : Index := 0#32
  let c0_266 : Index := 0#32
  ![0, 2, v409.toNat, 0, 0]
def k0_off8 (i : grid0.Coords) (k0_t1 : Fin (k0_t1_loop i).trips) : Fin 5 → Nat :=
  let c0_268 : Index := 0#32
  let c3_269 : Index := 3#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let v416 : Index := Scalar.indexCast v319
  let c0_270 : Index := 0#32
  let c0_271 : Index := 0#32
  ![0, 3, v416.toNat, 0, 0]
def k0_off9 (i : grid0.Coords) (k0_t1 : Fin (k0_t1_loop i).trips) : Fin 5 → Nat :=
  let c0_323 : Index := 0#32
  let c0_324 : Index := 0#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v497 : Index := Scalar.indexCast v450
  let c0_325 : Index := 0#32
  let c0_326 : Index := 0#32
  ![0, 0, v497.toNat, 0, 0]
def k0_off10 (i : grid0.Coords) (k0_t1 : Fin (k0_t1_loop i).trips) : Fin 5 → Nat :=
  let c0_328 : Index := 0#32
  let c1_329 : Index := 1#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v504 : Index := Scalar.indexCast v450
  let c0_330 : Index := 0#32
  let c0_331 : Index := 0#32
  ![0, 1, v504.toNat, 0, 0]
def k0_off11 (i : grid0.Coords) (k0_t1 : Fin (k0_t1_loop i).trips) : Fin 5 → Nat :=
  let c0_333 : Index := 0#32
  let c2_334 : Index := 2#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v511 : Index := Scalar.indexCast v450
  let c0_335 : Index := 0#32
  let c0_336 : Index := 0#32
  ![0, 2, v511.toNat, 0, 0]
def k0_off12 (i : grid0.Coords) (k0_t1 : Fin (k0_t1_loop i).trips) : Fin 5 → Nat :=
  let c0_338 : Index := 0#32
  let c3_339 : Index := 3#32
  let c2_i32_203 : BitVec 32 := 2#32
  let c2_i32_202 : BitVec 32 := 2#32
  let c0_i32_59 : BitVec 32 := 0#32
  let c1_i32_61 : BitVec 32 := 1#32
  let arg9 : BitVec 32 := Scf.iv c0_i32_59 c1_i32_61 k0_t1
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v518 : Index := Scalar.indexCast v450
  let c0_340 : Index := 0#32
  let c0_341 : Index := 0#32
  ![0, 3, v518.toNat, 0, 0]
def k0_off13 (i : grid0.Coords) (k0_t1 : Fin (k0_t1_loop i).trips) (c1_i32_344 : BitVec 32) : Fin 5 → Nat :=
  let c0_345 : Index := 0#32
  let c0_346 : Index := 0#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v525 : Index := Scalar.indexCast v524
  let c0_347 : Index := 0#32
  let c0_348 : Index := 0#32
  ![0, 0, v525.toNat, 0, 0]
def k0_off14 (i : grid0.Coords) (k0_t1 : Fin (k0_t1_loop i).trips) (c1_i32_344 : BitVec 32) : Fin 5 → Nat :=
  let c0_353 : Index := 0#32
  let c1_354 : Index := 1#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v532 : Index := Scalar.indexCast v524
  let c0_355 : Index := 0#32
  let c0_356 : Index := 0#32
  ![0, 1, v532.toNat, 0, 0]
def k0_off15 (i : grid0.Coords) (k0_t1 : Fin (k0_t1_loop i).trips) (c1_i32_344 : BitVec 32) : Fin 5 → Nat :=
  let c0_361 : Index := 0#32
  let c2_362 : Index := 2#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v539 : Index := Scalar.indexCast v524
  let c0_363 : Index := 0#32
  let c0_364 : Index := 0#32
  ![0, 2, v539.toNat, 0, 0]
def k0_off16 (i : grid0.Coords) (k0_t1 : Fin (k0_t1_loop i).trips) (c1_i32_344 : BitVec 32) : Fin 5 → Nat :=
  let c0_369 : Index := 0#32
  let c3_370 : Index := 3#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v546 : Index := Scalar.indexCast v524
  let c0_371 : Index := 0#32
  let c0_372 : Index := 0#32
  ![0, 3, v546.toNat, 0, 0]
def k0_off17 (i : grid0.Coords) (k0_t1 : Fin (k0_t1_loop i).trips) : Fin 5 → Nat :=
  let c0_393 : Index := 0#32
  let c0_394 : Index := 0#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v599 : Index := Scalar.indexCast v523
  let c0_395 : Index := 0#32
  let c0_396 : Index := 0#32
  ![0, 0, v599.toNat, 0, 0]
def k0_off18 (i : grid0.Coords) (k0_t1 : Fin (k0_t1_loop i).trips) : Fin 5 → Nat :=
  let c0_398 : Index := 0#32
  let c1_399 : Index := 1#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v606 : Index := Scalar.indexCast v523
  let c0_400 : Index := 0#32
  let c0_401 : Index := 0#32
  ![0, 1, v606.toNat, 0, 0]
def k0_off19 (i : grid0.Coords) (k0_t1 : Fin (k0_t1_loop i).trips) : Fin 5 → Nat :=
  let c0_403 : Index := 0#32
  let c2_404 : Index := 2#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v613 : Index := Scalar.indexCast v523
  let c0_405 : Index := 0#32
  let c0_406 : Index := 0#32
  ![0, 2, v613.toNat, 0, 0]
def k0_off20 (i : grid0.Coords) (k0_t1 : Fin (k0_t1_loop i).trips) : Fin 5 → Nat :=
  let c0_408 : Index := 0#32
  let c3_409 : Index := 3#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v620 : Index := Scalar.indexCast v523
  let c0_410 : Index := 0#32
  let c0_411 : Index := 0#32
  ![0, 3, v620.toNat, 0, 0]
def k0_off21 (i : grid0.Coords) (k0_t1 : Fin (k0_t1_loop i).trips) : Fin 5 → Nat :=
  let c0_463 : Index := 0#32
  let c0_464 : Index := 0#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v701 : Index := Scalar.indexCast v654
  let c0_465 : Index := 0#32
  let c0_466 : Index := 0#32
  ![0, 0, v701.toNat, 0, 0]
def k0_off22 (i : grid0.Coords) (k0_t1 : Fin (k0_t1_loop i).trips) : Fin 5 → Nat :=
  let c0_468 : Index := 0#32
  let c1_469 : Index := 1#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v708 : Index := Scalar.indexCast v654
  let c0_470 : Index := 0#32
  let c0_471 : Index := 0#32
  ![0, 1, v708.toNat, 0, 0]
def k0_off23 (i : grid0.Coords) (k0_t1 : Fin (k0_t1_loop i).trips) : Fin 5 → Nat :=
  let c0_473 : Index := 0#32
  let c2_474 : Index := 2#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v715 : Index := Scalar.indexCast v654
  let c0_475 : Index := 0#32
  let c0_476 : Index := 0#32
  ![0, 2, v715.toNat, 0, 0]
def k0_off24 (i : grid0.Coords) (k0_t1 : Fin (k0_t1_loop i).trips) : Fin 5 → Nat :=
  let c0_478 : Index := 0#32
  let c3_479 : Index := 3#32
  let c2_i32_343 : BitVec 32 := 2#32
  let c2_i32_200 : BitVec 32 := 2#32
  let c0_i32_59 : BitVec 32 := 0#32
  let c1_i32_61 : BitVec 32 := 1#32
  let arg9 : BitVec 32 := Scf.iv c0_i32_59 c1_i32_61 k0_t1
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v722 : Index := Scalar.indexCast v654
  let c0_480 : Index := 0#32
  let c0_481 : Index := 0#32
  ![0, 3, v722.toNat, 0, 0]
@[reducible] def k0_t2_loop (i : grid0.Coords) : Scf.Loop 32 :=
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let v58 : BitVec 32 := Scalar.addi c0_i32_59 v57
  let c1_i32_62 : BitVec 32 := 1#32
  ⟨v61, v58, c1_i32_62⟩
def k0_off25 (i : grid0.Coords) (k0_t2 : Fin (k0_t2_loop i).trips) (c1_i32_204 : BitVec 32) : Fin 5 → Nat :=
  let c0_205 : Index := 0#32
  let c0_206 : Index := 0#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v320 : BitVec 32 := Scalar.addi v319 c1_i32_204
  let v321 : Index := Scalar.indexCast v320
  let c0_207 : Index := 0#32
  let c0_208 : Index := 0#32
  ![0, 0, v321.toNat, 0, 0]
def k0_off26 (i : grid0.Coords) (k0_t2 : Fin (k0_t2_loop i).trips) (c1_i32_204 : BitVec 32) : Fin 5 → Nat :=
  let c0_213 : Index := 0#32
  let c1_214 : Index := 1#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v320 : BitVec 32 := Scalar.addi v319 c1_i32_204
  let v328 : Index := Scalar.indexCast v320
  let c0_215 : Index := 0#32
  let c0_216 : Index := 0#32
  ![0, 1, v328.toNat, 0, 0]
def k0_off27 (i : grid0.Coords) (k0_t2 : Fin (k0_t2_loop i).trips) (c1_i32_204 : BitVec 32) : Fin 5 → Nat :=
  let c0_221 : Index := 0#32
  let c2_222 : Index := 2#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v320 : BitVec 32 := Scalar.addi v319 c1_i32_204
  let v335 : Index := Scalar.indexCast v320
  let c0_223 : Index := 0#32
  let c0_224 : Index := 0#32
  ![0, 2, v335.toNat, 0, 0]
def k0_off28 (i : grid0.Coords) (k0_t2 : Fin (k0_t2_loop i).trips) (c1_i32_204 : BitVec 32) : Fin 5 → Nat :=
  let c0_229 : Index := 0#32
  let c3_230 : Index := 3#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v320 : BitVec 32 := Scalar.addi v319 c1_i32_204
  let v342 : Index := Scalar.indexCast v320
  let c0_231 : Index := 0#32
  let c0_232 : Index := 0#32
  ![0, 3, v342.toNat, 0, 0]
def k0_off29 (i : grid0.Coords) (k0_t2 : Fin (k0_t2_loop i).trips) : Fin 5 → Nat :=
  let c0_253 : Index := 0#32
  let c0_254 : Index := 0#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v395 : Index := Scalar.indexCast v319
  let c0_255 : Index := 0#32
  let c0_256 : Index := 0#32
  ![0, 0, v395.toNat, 0, 0]
def k0_off30 (i : grid0.Coords) (k0_t2 : Fin (k0_t2_loop i).trips) : Fin 5 → Nat :=
  let c0_258 : Index := 0#32
  let c1_259 : Index := 1#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v402 : Index := Scalar.indexCast v319
  let c0_260 : Index := 0#32
  let c0_261 : Index := 0#32
  ![0, 1, v402.toNat, 0, 0]
def k0_off31 (i : grid0.Coords) (k0_t2 : Fin (k0_t2_loop i).trips) : Fin 5 → Nat :=
  let c0_263 : Index := 0#32
  let c2_264 : Index := 2#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v409 : Index := Scalar.indexCast v319
  let c0_265 : Index := 0#32
  let c0_266 : Index := 0#32
  ![0, 2, v409.toNat, 0, 0]
def k0_off32 (i : grid0.Coords) (k0_t2 : Fin (k0_t2_loop i).trips) : Fin 5 → Nat :=
  let c0_268 : Index := 0#32
  let c3_269 : Index := 3#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let v416 : Index := Scalar.indexCast v319
  let c0_270 : Index := 0#32
  let c0_271 : Index := 0#32
  ![0, 3, v416.toNat, 0, 0]
def k0_off33 (i : grid0.Coords) (k0_t2 : Fin (k0_t2_loop i).trips) : Fin 5 → Nat :=
  let c0_323 : Index := 0#32
  let c0_324 : Index := 0#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v497 : Index := Scalar.indexCast v450
  let c0_325 : Index := 0#32
  let c0_326 : Index := 0#32
  ![0, 0, v497.toNat, 0, 0]
def k0_off34 (i : grid0.Coords) (k0_t2 : Fin (k0_t2_loop i).trips) : Fin 5 → Nat :=
  let c0_328 : Index := 0#32
  let c1_329 : Index := 1#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v504 : Index := Scalar.indexCast v450
  let c0_330 : Index := 0#32
  let c0_331 : Index := 0#32
  ![0, 1, v504.toNat, 0, 0]
def k0_off35 (i : grid0.Coords) (k0_t2 : Fin (k0_t2_loop i).trips) : Fin 5 → Nat :=
  let c0_333 : Index := 0#32
  let c2_334 : Index := 2#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v511 : Index := Scalar.indexCast v450
  let c0_335 : Index := 0#32
  let c0_336 : Index := 0#32
  ![0, 2, v511.toNat, 0, 0]
def k0_off36 (i : grid0.Coords) (k0_t2 : Fin (k0_t2_loop i).trips) : Fin 5 → Nat :=
  let c0_338 : Index := 0#32
  let c3_339 : Index := 3#32
  let c2_i32_203 : BitVec 32 := 2#32
  let c2_i32_202 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v318 : BitVec 32 := Scalar.muli c2_i32_202 arg9
  let v319 : BitVec 32 := Scalar.muli c2_i32_203 v318
  let c1_i32_306 : BitVec 32 := 1#32
  let v450 : BitVec 32 := Scalar.addi v319 c1_i32_306
  let v518 : Index := Scalar.indexCast v450
  let c0_340 : Index := 0#32
  let c0_341 : Index := 0#32
  ![0, 3, v518.toNat, 0, 0]
def k0_off37 (i : grid0.Coords) (k0_t2 : Fin (k0_t2_loop i).trips) (c1_i32_344 : BitVec 32) : Fin 5 → Nat :=
  let c0_345 : Index := 0#32
  let c0_346 : Index := 0#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v525 : Index := Scalar.indexCast v524
  let c0_347 : Index := 0#32
  let c0_348 : Index := 0#32
  ![0, 0, v525.toNat, 0, 0]
def k0_off38 (i : grid0.Coords) (k0_t2 : Fin (k0_t2_loop i).trips) (c1_i32_344 : BitVec 32) : Fin 5 → Nat :=
  let c0_353 : Index := 0#32
  let c1_354 : Index := 1#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v532 : Index := Scalar.indexCast v524
  let c0_355 : Index := 0#32
  let c0_356 : Index := 0#32
  ![0, 1, v532.toNat, 0, 0]
def k0_off39 (i : grid0.Coords) (k0_t2 : Fin (k0_t2_loop i).trips) (c1_i32_344 : BitVec 32) : Fin 5 → Nat :=
  let c0_361 : Index := 0#32
  let c2_362 : Index := 2#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v539 : Index := Scalar.indexCast v524
  let c0_363 : Index := 0#32
  let c0_364 : Index := 0#32
  ![0, 2, v539.toNat, 0, 0]
def k0_off40 (i : grid0.Coords) (k0_t2 : Fin (k0_t2_loop i).trips) (c1_i32_344 : BitVec 32) : Fin 5 → Nat :=
  let c0_369 : Index := 0#32
  let c3_370 : Index := 3#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v524 : BitVec 32 := Scalar.addi v523 c1_i32_344
  let v546 : Index := Scalar.indexCast v524
  let c0_371 : Index := 0#32
  let c0_372 : Index := 0#32
  ![0, 3, v546.toNat, 0, 0]
def k0_off41 (i : grid0.Coords) (k0_t2 : Fin (k0_t2_loop i).trips) : Fin 5 → Nat :=
  let c0_393 : Index := 0#32
  let c0_394 : Index := 0#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v599 : Index := Scalar.indexCast v523
  let c0_395 : Index := 0#32
  let c0_396 : Index := 0#32
  ![0, 0, v599.toNat, 0, 0]
def k0_off42 (i : grid0.Coords) (k0_t2 : Fin (k0_t2_loop i).trips) : Fin 5 → Nat :=
  let c0_398 : Index := 0#32
  let c1_399 : Index := 1#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v606 : Index := Scalar.indexCast v523
  let c0_400 : Index := 0#32
  let c0_401 : Index := 0#32
  ![0, 1, v606.toNat, 0, 0]
def k0_off43 (i : grid0.Coords) (k0_t2 : Fin (k0_t2_loop i).trips) : Fin 5 → Nat :=
  let c0_403 : Index := 0#32
  let c2_404 : Index := 2#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v613 : Index := Scalar.indexCast v523
  let c0_405 : Index := 0#32
  let c0_406 : Index := 0#32
  ![0, 2, v613.toNat, 0, 0]
def k0_off44 (i : grid0.Coords) (k0_t2 : Fin (k0_t2_loop i).trips) : Fin 5 → Nat :=
  let c0_408 : Index := 0#32
  let c3_409 : Index := 3#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let v620 : Index := Scalar.indexCast v523
  let c0_410 : Index := 0#32
  let c0_411 : Index := 0#32
  ![0, 3, v620.toNat, 0, 0]
def k0_off45 (i : grid0.Coords) (k0_t2 : Fin (k0_t2_loop i).trips) : Fin 5 → Nat :=
  let c0_463 : Index := 0#32
  let c0_464 : Index := 0#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v701 : Index := Scalar.indexCast v654
  let c0_465 : Index := 0#32
  let c0_466 : Index := 0#32
  ![0, 0, v701.toNat, 0, 0]
def k0_off46 (i : grid0.Coords) (k0_t2 : Fin (k0_t2_loop i).trips) : Fin 5 → Nat :=
  let c0_468 : Index := 0#32
  let c1_469 : Index := 1#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v708 : Index := Scalar.indexCast v654
  let c0_470 : Index := 0#32
  let c0_471 : Index := 0#32
  ![0, 1, v708.toNat, 0, 0]
def k0_off47 (i : grid0.Coords) (k0_t2 : Fin (k0_t2_loop i).trips) : Fin 5 → Nat :=
  let c0_473 : Index := 0#32
  let c2_474 : Index := 2#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v715 : Index := Scalar.indexCast v654
  let c0_475 : Index := 0#32
  let c0_476 : Index := 0#32
  ![0, 2, v715.toNat, 0, 0]
def k0_off48 (i : grid0.Coords) (k0_t2 : Fin (k0_t2_loop i).trips) : Fin 5 → Nat :=
  let c0_478 : Index := 0#32
  let c3_479 : Index := 3#32
  let c2_i32_343 : BitVec 32 := 2#32
  let c2_i32_200 : BitVec 32 := 2#32
  let c0_i32_59 : BitVec 32 := 0#32
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_55 : BitVec 32 := 0#32
  let v43 : BitVec 1 := Scalar.cmpi .slt arg2 c0_i32_55
  let v44 : BitVec 32 := Scalar.extui v43
  let v45 : BitVec 32 := Scalar.subi v42 v44
  let c2_i32 : BitVec 32 := 2#32
  let c0_i32_56 : BitVec 32 := 0#32
  let v46 : BitVec 1 := Scalar.cmpi .sgt c2_i32 c0_i32_56
  let v47 : BitVec 32 := Scalar.extui v46
  let c0_i32_57 : BitVec 32 := 0#32
  let v48 : BitVec 1 := Scalar.cmpi .slt c2_i32 c0_i32_57
  let v49 : BitVec 32 := Scalar.extui v48
  let v50 : BitVec 32 := Scalar.subi v47 v49
  let v51 : BitVec 1 := Scalar.cmpi .ne v45 v50
  let v52 : BitVec 32 := Scalar.remsi arg2 c2_i32
  let c0_i32_58 : BitVec 32 := 0#32
  let v53 : BitVec 1 := Scalar.cmpi .ne v52 c0_i32_58
  let v54 : BitVec 1 := Scalar.andi v51 v53
  let v40 : BitVec 32 := Scalar.divsi arg2 c2_i32
  let c1_i32 : BitVec 32 := 1#32
  let v55 : BitVec 32 := Scalar.subi v40 c1_i32
  let v56 : BitVec 32 := Scalar.select v54 v55 v40
  let v57 : BitVec 32 := Scalar.subi v56 c0_i32_59
  let c1_i32_60 : BitVec 32 := 1#32
  let v59 : BitVec 32 := Scalar.divsi v57 c1_i32_60
  let v60 : BitVec 32 := Scalar.muli v59 c1_i32_60
  let v61 : BitVec 32 := Scalar.addi c0_i32_59 v60
  let c1_i32_62 : BitVec 32 := 1#32
  let arg9 : BitVec 32 := Scf.iv v61 c1_i32_62 k0_t2
  let v316 : BitVec 32 := Scalar.muli c2_i32_200 arg9
  let c1_i32_201 : BitVec 32 := 1#32
  let v317 : BitVec 32 := Scalar.addi v316 c1_i32_201
  let v523 : BitVec 32 := Scalar.muli c2_i32_343 v317
  let c1_i32_446 : BitVec 32 := 1#32
  let v654 : BitVec 32 := Scalar.addi v523 c1_i32_446
  let v722 : Index := Scalar.indexCast v654
  let c0_480 : Index := 0#32
  let c0_481 : Index := 0#32
  ![0, 3, v722.toNat, 0, 0]
@[reducible] def k0_t3_loop (i : grid0.Coords) : Scf.Loop 32 :=
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_72 : BitVec 32 := 1#32
  ⟨v81, v86, c1_i32_72⟩
def k0_off49 (i : grid0.Coords) (k0_t3 : Fin (k0_t3_loop i).trips) (c1_i32_201 : BitVec 32) : Fin 5 → Nat :=
  let c0_202 : Index := 0#32
  let c0_203 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v317 : BitVec 32 := Scalar.addi v316 c1_i32_201
  let v318 : Index := Scalar.indexCast v317
  let c0_204 : Index := 0#32
  let c0_205 : Index := 0#32
  ![0, 0, v318.toNat, 0, 0]
def k0_off50 (i : grid0.Coords) (k0_t3 : Fin (k0_t3_loop i).trips) (c1_i32_201 : BitVec 32) : Fin 5 → Nat :=
  let c0_210 : Index := 0#32
  let c1_211 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v317 : BitVec 32 := Scalar.addi v316 c1_i32_201
  let v325 : Index := Scalar.indexCast v317
  let c0_212 : Index := 0#32
  let c0_213 : Index := 0#32
  ![0, 1, v325.toNat, 0, 0]
def k0_off51 (i : grid0.Coords) (k0_t3 : Fin (k0_t3_loop i).trips) (c1_i32_201 : BitVec 32) : Fin 5 → Nat :=
  let c0_218 : Index := 0#32
  let c2_219 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v317 : BitVec 32 := Scalar.addi v316 c1_i32_201
  let v332 : Index := Scalar.indexCast v317
  let c0_220 : Index := 0#32
  let c0_221 : Index := 0#32
  ![0, 2, v332.toNat, 0, 0]
def k0_off52 (i : grid0.Coords) (k0_t3 : Fin (k0_t3_loop i).trips) (c1_i32_201 : BitVec 32) : Fin 5 → Nat :=
  let c0_226 : Index := 0#32
  let c3_227 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v317 : BitVec 32 := Scalar.addi v316 c1_i32_201
  let v339 : Index := Scalar.indexCast v317
  let c0_228 : Index := 0#32
  let c0_229 : Index := 0#32
  ![0, 3, v339.toNat, 0, 0]
def k0_off53 (i : grid0.Coords) (k0_t3 : Fin (k0_t3_loop i).trips) : Fin 5 → Nat :=
  let c0_250 : Index := 0#32
  let c0_251 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v392 : Index := Scalar.indexCast v316
  let c0_252 : Index := 0#32
  let c0_253 : Index := 0#32
  ![0, 0, v392.toNat, 0, 0]
def k0_off54 (i : grid0.Coords) (k0_t3 : Fin (k0_t3_loop i).trips) : Fin 5 → Nat :=
  let c0_255 : Index := 0#32
  let c1_256 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v399 : Index := Scalar.indexCast v316
  let c0_257 : Index := 0#32
  let c0_258 : Index := 0#32
  ![0, 1, v399.toNat, 0, 0]
def k0_off55 (i : grid0.Coords) (k0_t3 : Fin (k0_t3_loop i).trips) : Fin 5 → Nat :=
  let c0_260 : Index := 0#32
  let c2_261 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v406 : Index := Scalar.indexCast v316
  let c0_262 : Index := 0#32
  let c0_263 : Index := 0#32
  ![0, 2, v406.toNat, 0, 0]
def k0_off56 (i : grid0.Coords) (k0_t3 : Fin (k0_t3_loop i).trips) : Fin 5 → Nat :=
  let c0_265 : Index := 0#32
  let c3_266 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let v413 : Index := Scalar.indexCast v316
  let c0_267 : Index := 0#32
  let c0_268 : Index := 0#32
  ![0, 3, v413.toNat, 0, 0]
def k0_off57 (i : grid0.Coords) (k0_t3 : Fin (k0_t3_loop i).trips) : Fin 5 → Nat :=
  let c0_320 : Index := 0#32
  let c0_321 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let c1_i32_303 : BitVec 32 := 1#32
  let v447 : BitVec 32 := Scalar.addi v316 c1_i32_303
  let v494 : Index := Scalar.indexCast v447
  let c0_322 : Index := 0#32
  let c0_323 : Index := 0#32
  ![0, 0, v494.toNat, 0, 0]
def k0_off58 (i : grid0.Coords) (k0_t3 : Fin (k0_t3_loop i).trips) : Fin 5 → Nat :=
  let c0_325 : Index := 0#32
  let c1_326 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let c1_i32_303 : BitVec 32 := 1#32
  let v447 : BitVec 32 := Scalar.addi v316 c1_i32_303
  let v501 : Index := Scalar.indexCast v447
  let c0_327 : Index := 0#32
  let c0_328 : Index := 0#32
  ![0, 1, v501.toNat, 0, 0]
def k0_off59 (i : grid0.Coords) (k0_t3 : Fin (k0_t3_loop i).trips) : Fin 5 → Nat :=
  let c0_330 : Index := 0#32
  let c2_331 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let c1_i32_303 : BitVec 32 := 1#32
  let v447 : BitVec 32 := Scalar.addi v316 c1_i32_303
  let v508 : Index := Scalar.indexCast v447
  let c0_332 : Index := 0#32
  let c0_333 : Index := 0#32
  ![0, 2, v508.toNat, 0, 0]
def k0_off60 (i : grid0.Coords) (k0_t3 : Fin (k0_t3_loop i).trips) : Fin 5 → Nat :=
  let c0_335 : Index := 0#32
  let c3_336 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let c1_i32_72 : BitVec 32 := 1#32
  let arg9 : BitVec 32 := Scf.iv v81 c1_i32_72 k0_t3
  let v316 : BitVec 32 := Scalar.muli c2_i32_200 arg9
  let c1_i32_303 : BitVec 32 := 1#32
  let v447 : BitVec 32 := Scalar.addi v316 c1_i32_303
  let v515 : Index := Scalar.indexCast v447
  let c0_337 : Index := 0#32
  let c0_338 : Index := 0#32
  ![0, 3, v515.toNat, 0, 0]
@[reducible] def k0_t4_loop (i : grid0.Coords) : Scf.Loop 32 :=
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let v83 : BitVec 32 := Scalar.addi v81 v82
  let c1_i32_73 : BitVec 32 := 1#32
  ⟨v86, v83, c1_i32_73⟩
def k0_off61 (i : grid0.Coords) (k0_t4 : Fin (k0_t4_loop i).trips) (c1_i32_201 : BitVec 32) : Fin 5 → Nat :=
  let c0_202 : Index := 0#32
  let c0_203 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v317 : BitVec 32 := Scalar.addi v316 c1_i32_201
  let v318 : Index := Scalar.indexCast v317
  let c0_204 : Index := 0#32
  let c0_205 : Index := 0#32
  ![0, 0, v318.toNat, 0, 0]
def k0_off62 (i : grid0.Coords) (k0_t4 : Fin (k0_t4_loop i).trips) (c1_i32_201 : BitVec 32) : Fin 5 → Nat :=
  let c0_210 : Index := 0#32
  let c1_211 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v317 : BitVec 32 := Scalar.addi v316 c1_i32_201
  let v325 : Index := Scalar.indexCast v317
  let c0_212 : Index := 0#32
  let c0_213 : Index := 0#32
  ![0, 1, v325.toNat, 0, 0]
def k0_off63 (i : grid0.Coords) (k0_t4 : Fin (k0_t4_loop i).trips) (c1_i32_201 : BitVec 32) : Fin 5 → Nat :=
  let c0_218 : Index := 0#32
  let c2_219 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v317 : BitVec 32 := Scalar.addi v316 c1_i32_201
  let v332 : Index := Scalar.indexCast v317
  let c0_220 : Index := 0#32
  let c0_221 : Index := 0#32
  ![0, 2, v332.toNat, 0, 0]
def k0_off64 (i : grid0.Coords) (k0_t4 : Fin (k0_t4_loop i).trips) (c1_i32_201 : BitVec 32) : Fin 5 → Nat :=
  let c0_226 : Index := 0#32
  let c3_227 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v317 : BitVec 32 := Scalar.addi v316 c1_i32_201
  let v339 : Index := Scalar.indexCast v317
  let c0_228 : Index := 0#32
  let c0_229 : Index := 0#32
  ![0, 3, v339.toNat, 0, 0]
def k0_off65 (i : grid0.Coords) (k0_t4 : Fin (k0_t4_loop i).trips) : Fin 5 → Nat :=
  let c0_250 : Index := 0#32
  let c0_251 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v392 : Index := Scalar.indexCast v316
  let c0_252 : Index := 0#32
  let c0_253 : Index := 0#32
  ![0, 0, v392.toNat, 0, 0]
def k0_off66 (i : grid0.Coords) (k0_t4 : Fin (k0_t4_loop i).trips) : Fin 5 → Nat :=
  let c0_255 : Index := 0#32
  let c1_256 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v399 : Index := Scalar.indexCast v316
  let c0_257 : Index := 0#32
  let c0_258 : Index := 0#32
  ![0, 1, v399.toNat, 0, 0]
def k0_off67 (i : grid0.Coords) (k0_t4 : Fin (k0_t4_loop i).trips) : Fin 5 → Nat :=
  let c0_260 : Index := 0#32
  let c2_261 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v406 : Index := Scalar.indexCast v316
  let c0_262 : Index := 0#32
  let c0_263 : Index := 0#32
  ![0, 2, v406.toNat, 0, 0]
def k0_off68 (i : grid0.Coords) (k0_t4 : Fin (k0_t4_loop i).trips) : Fin 5 → Nat :=
  let c0_265 : Index := 0#32
  let c3_266 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let v413 : Index := Scalar.indexCast v316
  let c0_267 : Index := 0#32
  let c0_268 : Index := 0#32
  ![0, 3, v413.toNat, 0, 0]
def k0_off69 (i : grid0.Coords) (k0_t4 : Fin (k0_t4_loop i).trips) : Fin 5 → Nat :=
  let c0_320 : Index := 0#32
  let c0_321 : Index := 0#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let c1_i32_303 : BitVec 32 := 1#32
  let v447 : BitVec 32 := Scalar.addi v316 c1_i32_303
  let v494 : Index := Scalar.indexCast v447
  let c0_322 : Index := 0#32
  let c0_323 : Index := 0#32
  ![0, 0, v494.toNat, 0, 0]
def k0_off70 (i : grid0.Coords) (k0_t4 : Fin (k0_t4_loop i).trips) : Fin 5 → Nat :=
  let c0_325 : Index := 0#32
  let c1_326 : Index := 1#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let c1_i32_303 : BitVec 32 := 1#32
  let v447 : BitVec 32 := Scalar.addi v316 c1_i32_303
  let v501 : Index := Scalar.indexCast v447
  let c0_327 : Index := 0#32
  let c0_328 : Index := 0#32
  ![0, 1, v501.toNat, 0, 0]
def k0_off71 (i : grid0.Coords) (k0_t4 : Fin (k0_t4_loop i).trips) : Fin 5 → Nat :=
  let c0_330 : Index := 0#32
  let c2_331 : Index := 2#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let c1_i32_303 : BitVec 32 := 1#32
  let v447 : BitVec 32 := Scalar.addi v316 c1_i32_303
  let v508 : Index := Scalar.indexCast v447
  let c0_332 : Index := 0#32
  let c0_333 : Index := 0#32
  ![0, 2, v508.toNat, 0, 0]
def k0_off72 (i : grid0.Coords) (k0_t4 : Fin (k0_t4_loop i).trips) : Fin 5 → Nat :=
  let c0_335 : Index := 0#32
  let c3_336 : Index := 3#32
  let c2_i32_200 : BitVec 32 := 2#32
  let c2_i32_70 : BitVec 32 := 2#32
  let arg2 : BitVec 32 := BitVec.ofNat 32 (i 2).val
  let c0_i32_64 : BitVec 32 := 0#32
  let v65 : BitVec 1 := Scalar.cmpi .sgt arg2 c0_i32_64
  let v66 : BitVec 32 := Scalar.extui v65
  let c0_i32_65 : BitVec 32 := 0#32
  let v67 : BitVec 1 := Scalar.cmpi .slt arg2 c0_i32_65
  let v68 : BitVec 32 := Scalar.extui v67
  let v69 : BitVec 32 := Scalar.subi v66 v68
  let c2_i32_63 : BitVec 32 := 2#32
  let c0_i32_66 : BitVec 32 := 0#32
  let v70 : BitVec 1 := Scalar.cmpi .sgt c2_i32_63 c0_i32_66
  let v71 : BitVec 32 := Scalar.extui v70
  let c0_i32_67 : BitVec 32 := 0#32
  let v72 : BitVec 1 := Scalar.cmpi .slt c2_i32_63 c0_i32_67
  let v73 : BitVec 32 := Scalar.extui v72
  let v74 : BitVec 32 := Scalar.subi v71 v73
  let v75 : BitVec 1 := Scalar.cmpi .ne v69 v74
  let v76 : BitVec 32 := Scalar.remsi arg2 c2_i32_63
  let c0_i32_68 : BitVec 32 := 0#32
  let v77 : BitVec 1 := Scalar.cmpi .ne v76 c0_i32_68
  let v78 : BitVec 1 := Scalar.andi v75 v77
  let v64 : BitVec 32 := Scalar.divsi arg2 c2_i32_63
  let c1_i32_69 : BitVec 32 := 1#32
  let v79 : BitVec 32 := Scalar.subi v64 c1_i32_69
  let v80 : BitVec 32 := Scalar.select v78 v79 v64
  let v81 : BitVec 32 := Scalar.muli c2_i32_70 v80
  let v82 : BitVec 32 := Scalar.subi arg2 v81
  let c1_i32_71 : BitVec 32 := 1#32
  let v84 : BitVec 32 := Scalar.divsi v82 c1_i32_71
  let v85 : BitVec 32 := Scalar.muli v84 c1_i32_71
  let v86 : BitVec 32 := Scalar.addi v81 v85
  let c1_i32_73 : BitVec 32 := 1#32
  let arg9 : BitVec 32 := Scf.iv v86 c1_i32_73 k0_t4
  let v316 : BitVec 32 := Scalar.muli c2_i32_200 arg9
  let c1_i32_303 : BitVec 32 := 1#32
  let v447 : BitVec 32 := Scalar.addi v316 c1_i32_303
  let v515 : Index := Scalar.indexCast v447
  let c0_337 : Index := 0#32
  let c0_338 : Index := 0#32
  ![0, 3, v515.toNat, 0, 0]
def k0_off73 (i : grid0.Coords) : Fin 5 → Nat :=
  let c0_76 : Index := 0#32
  let c0_77 : Index := 0#32
  let c2_i32_74 : BitVec 32 := 2#32
  let arg2 : BitVec 32 := BitVec.ofNat 32 (i 2).val
  let v91 : BitVec 32 := Scalar.muli c2_i32_74 arg2
  let c1_i32_75 : BitVec 32 := 1#32
  let v92 : BitVec 32 := Scalar.addi v91 c1_i32_75
  let v93 : Index := Scalar.indexCast v92
  let c0_78 : Index := 0#32
  let c0_79 : Index := 0#32
  ![0, 0, v93.toNat, 0, 0]
def k0_off74 (i : grid0.Coords) : Fin 5 → Nat :=
  let c0_84 : Index := 0#32
  let c1_85 : Index := 1#32
  let c2_i32_74 : BitVec 32 := 2#32
  let arg2 : BitVec 32 := BitVec.ofNat 32 (i 2).val
  let v91 : BitVec 32 := Scalar.muli c2_i32_74 arg2
  let c1_i32_75 : BitVec 32 := 1#32
  let v92 : BitVec 32 := Scalar.addi v91 c1_i32_75
  let v100 : Index := Scalar.indexCast v92
  let c0_86 : Index := 0#32
  let c0_87 : Index := 0#32
  ![0, 1, v100.toNat, 0, 0]
def k0_off75 (i : grid0.Coords) : Fin 5 → Nat :=
  let c0_92 : Index := 0#32
  let c2_93 : Index := 2#32
  let c2_i32_74 : BitVec 32 := 2#32
  let arg2 : BitVec 32 := BitVec.ofNat 32 (i 2).val
  let v91 : BitVec 32 := Scalar.muli c2_i32_74 arg2
  let c1_i32_75 : BitVec 32 := 1#32
  let v92 : BitVec 32 := Scalar.addi v91 c1_i32_75
  let v107 : Index := Scalar.indexCast v92
  let c0_94 : Index := 0#32
  let c0_95 : Index := 0#32
  ![0, 2, v107.toNat, 0, 0]
def k0_off76 (i : grid0.Coords) : Fin 5 → Nat :=
  let c0_100 : Index := 0#32
  let c3_101 : Index := 3#32
  let c2_i32_74 : BitVec 32 := 2#32
  let arg2 : BitVec 32 := BitVec.ofNat 32 (i 2).val
  let v91 : BitVec 32 := Scalar.muli c2_i32_74 arg2
  let c1_i32_75 : BitVec 32 := 1#32
  let v92 : BitVec 32 := Scalar.addi v91 c1_i32_75
  let v114 : Index := Scalar.indexCast v92
  let c0_102 : Index := 0#32
  let c0_103 : Index := 0#32
  ![0, 3, v114.toNat, 0, 0]
def k0_off77 (i : grid0.Coords) : Fin 5 → Nat :=
  let c0_129 : Index := 0#32
  let c0_130 : Index := 0#32
  let c2_i32_108 : BitVec 32 := 2#32
  let arg2 : BitVec 32 := BitVec.ofNat 32 (i 2).val
  let v121 : BitVec 32 := Scalar.muli c2_i32_108 arg2
  let v177 : Index := Scalar.indexCast v121
  let c0_131 : Index := 0#32
  let c0_132 : Index := 0#32
  ![0, 0, v177.toNat, 0, 0]
def k0_off78 (i : grid0.Coords) : Fin 5 → Nat :=
  let c0_134 : Index := 0#32
  let c1_135 : Index := 1#32
  let c2_i32_108 : BitVec 32 := 2#32
  let arg2 : BitVec 32 := BitVec.ofNat 32 (i 2).val
  let v121 : BitVec 32 := Scalar.muli c2_i32_108 arg2
  let v184 : Index := Scalar.indexCast v121
  let c0_136 : Index := 0#32
  let c0_137 : Index := 0#32
  ![0, 1, v184.toNat, 0, 0]
def k0_off79 (i : grid0.Coords) : Fin 5 → Nat :=
  let c0_139 : Index := 0#32
  let c2_140 : Index := 2#32
  let c2_i32_108 : BitVec 32 := 2#32
  let arg2 : BitVec 32 := BitVec.ofNat 32 (i 2).val
  let v121 : BitVec 32 := Scalar.muli c2_i32_108 arg2
  let v191 : Index := Scalar.indexCast v121
  let c0_141 : Index := 0#32
  let c0_142 : Index := 0#32
  ![0, 2, v191.toNat, 0, 0]
def k0_off80 (i : grid0.Coords) : Fin 5 → Nat :=
  let c0_144 : Index := 0#32
  let c3_145 : Index := 3#32
  let c2_i32_108 : BitVec 32 := 2#32
  let arg2 : BitVec 32 := BitVec.ofNat 32 (i 2).val
  let v121 : BitVec 32 := Scalar.muli c2_i32_108 arg2
  let v198 : Index := Scalar.indexCast v121
  let c0_146 : Index := 0#32
  let c0_147 : Index := 0#32
  ![0, 3, v198.toNat, 0, 0]
def k0_off81 (i : grid0.Coords) : Fin 5 → Nat :=
  let c0_171 : Index := 0#32
  let c0_172 : Index := 0#32
  let c2_i32_149 : BitVec 32 := 2#32
  let arg2 : BitVec 32 := BitVec.ofNat 32 (i 2).val
  let v203 : BitVec 32 := Scalar.muli c2_i32_149 arg2
  let c1_i32_150 : BitVec 32 := 1#32
  let v204 : BitVec 32 := Scalar.addi v203 c1_i32_150
  let v262 : Index := Scalar.indexCast v204
  let c0_173 : Index := 0#32
  let c0_174 : Index := 0#32
  ![0, 0, v262.toNat, 0, 0]
def k0_off82 (i : grid0.Coords) : Fin 5 → Nat :=
  let c0_176 : Index := 0#32
  let c1_177 : Index := 1#32
  let c2_i32_149 : BitVec 32 := 2#32
  let arg2 : BitVec 32 := BitVec.ofNat 32 (i 2).val
  let v203 : BitVec 32 := Scalar.muli c2_i32_149 arg2
  let c1_i32_150 : BitVec 32 := 1#32
  let v204 : BitVec 32 := Scalar.addi v203 c1_i32_150
  let v269 : Index := Scalar.indexCast v204
  let c0_178 : Index := 0#32
  let c0_179 : Index := 0#32
  ![0, 1, v269.toNat, 0, 0]
def k0_off83 (i : grid0.Coords) : Fin 5 → Nat :=
  let c0_181 : Index := 0#32
  let c2_182 : Index := 2#32
  let c2_i32_149 : BitVec 32 := 2#32
  let arg2 : BitVec 32 := BitVec.ofNat 32 (i 2).val
  let v203 : BitVec 32 := Scalar.muli c2_i32_149 arg2
  let c1_i32_150 : BitVec 32 := 1#32
  let v204 : BitVec 32 := Scalar.addi v203 c1_i32_150
  let v276 : Index := Scalar.indexCast v204
  let c0_183 : Index := 0#32
  let c0_184 : Index := 0#32
  ![0, 2, v276.toNat, 0, 0]
def k0_off84 (i : grid0.Coords) : Fin 5 → Nat :=
  let c0_186 : Index := 0#32
  let c3_187 : Index := 3#32
  let c2_i32_149 : BitVec 32 := 2#32
  let arg2 : BitVec 32 := BitVec.ofNat 32 (i 2).val
  let v203 : BitVec 32 := Scalar.muli c2_i32_149 arg2
  let c1_i32_150 : BitVec 32 := 1#32
  let v204 : BitVec 32 := Scalar.addi v203 c1_i32_150
  let v283 : Index := Scalar.indexCast v204
  let c0_188 : Index := 0#32
  let c0_189 : Index := 0#32
  ![0, 3, v283.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x4x32x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x32x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S4x8192x8x64 : Shape := ⟨4, ![4, 8192, 8, 64]⟩
abbrev S4x8x8192 : Shape := ⟨3, ![4, 8, 8192]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x64x8192 : Shape := ⟨4, ![4, 8, 64, 8192]⟩
abbrev S4x8192x512 : Shape := ⟨3, ![4, 8192, 512]⟩
abbrev S4x512x8192 : Shape := ⟨3, ![4, 512, 8192]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8x8192, .f32⟩
  | .hbm, ⟨4, _⟩ => ⟨S4x8x8192x8192, .f32⟩
  | .hbm, ⟨5, _⟩ => ⟨S_, .f32⟩
  | .hbm, ⟨6, _⟩ => ⟨S4x8x8192x8192, .f32⟩
  | .hbm, ⟨7, _⟩ => ⟨S4x8x8192x8192, .f32⟩
  | .hbm, ⟨8, _⟩ => ⟨S4x8x8192x1, .f32⟩
  | .hbm, ⟨9, _⟩ => ⟨S4x8x8192x8192, .f32⟩
  | .hbm, ⟨10, _⟩ => ⟨S4x8x8192x8192, .f32⟩
  | .hbm, ⟨11, _⟩ => ⟨S4x8x1x8192, .f32⟩
  | .hbm, ⟨12, _⟩ => ⟨S4x8x8192x8192, .f32⟩
  | .hbm, ⟨13, _⟩ => ⟨S4x8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S4x8x8192x8192, .i1⟩
  | .hbm, ⟨23, _⟩ => ⟨S4x8x8192x8192, .f32⟩
  | .hbm, ⟨24, _⟩ => ⟨S4x8x8192x8192, .f32⟩
  | .hbm, ⟨25, _⟩ => ⟨S_, .f32⟩
  | .hbm, ⟨26, _⟩ => ⟨S4x8x8192, .f32⟩
  | .hbm, ⟨27, _⟩ => ⟨S_, .f32⟩
  | .hbm, ⟨28, _⟩ => ⟨S4x8x8192, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S4x8x8192, .f32⟩
  | .hbm, ⟨36, _⟩ => ⟨S4x8x8192x1, .f32⟩
  | .hbm, ⟨37, _⟩ => ⟨S4x8x8192x8192, .f32⟩
  | .hbm, ⟨38, _⟩ => ⟨S4x8x8192x8192, .f32⟩
  | .hbm, ⟨39, _⟩ => ⟨S4x8x64x8192, .f32⟩
  | .hbm, ⟨40, _⟩ => ⟨S4x8192x8x64, .f32⟩
  | .hbm, ⟨41, _⟩ => ⟨S4x8192x512, .f32⟩
  | .hbm, ⟨42, _⟩ => ⟨S4x512x8192, .f32⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Tail.lean ====
abbrev S4x8192x1024 : Shape := ⟨3, ![4, 8192, 1024]⟩
abbrev S4x8192x512 : Shape := ⟨3, ![4, 8192, 512]⟩
abbrev S512x1024 : Shape := ⟨2, ![512, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x4x128 : Shape := ⟨3, ![32768, 4, 128]⟩
abbrev S4x32768x128 : Shape := ⟨3, ![4, 32768, 128]⟩
abbrev S4x512x8192 : Shape := ⟨3, ![4, 512, 8192]⟩
abbrev S512x1 : Shape := ⟨2, ![512, 1]⟩
abbrev S1x512 : Shape := ⟨2, ![1, 512]⟩
abbrev S1x1024 : Shape := ⟨2, ![1, 1024]⟩
abbrev S32768x1024 : Shape := ⟨2, ![32768, 1024]⟩
abbrev S1x512x512 : Shape := ⟨3, ![1, 512, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩
abbrev S512x2816 : Shape := ⟨2, ![512, 2816]⟩

abbrev nBuf : Space → Nat
  | .hbm => 29
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S512x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32768x4x128, .f32⟩
  | .hbm, ⟨13, _⟩ => ⟨S4x32768x128, .f32⟩
  | .hbm, ⟨14, _⟩ => ⟨S4x512x8192, .f32⟩
  | .hbm, ⟨15, _⟩ => ⟨S512x1024, .bf16⟩
  | .hbm, ⟨16, _⟩ => ⟨S512x1, .f32⟩
  | .hbm, ⟨17, _⟩ => ⟨S1x512, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1x1024, .f32⟩
  | .hbm, ⟨27, _⟩ => ⟨S32768x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .f32⟩
  | .local _ .vmem, ⟨3, _⟩ => ⟨S1x512x512, .f32⟩
  | .local _ .vmem, ⟨4, _⟩ => ⟨S4x512x128, .f32⟩
  | .local _ .vmem, ⟨5, _⟩ => ⟨S4x512x128, .f32⟩
  | .local _ .vmem, ⟨6, _⟩ => ⟨S512x1024, .bf16⟩
  | .local _ .vmem, ⟨7, _⟩ => ⟨S512x1, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== TailRefIdeal.lean ====
abbrev S4x8192x1024 : Shape := ⟨3, ![4, 8192, 1024]⟩
abbrev S4x8192x512 : Shape := ⟨3, ![4, 8192, 512]⟩
abbrev S512x1024 : Shape := ⟨2, ![512, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S512x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S4x8192x512, .f32⟩
  | .hbm, ⟨13, _⟩ => ⟨S4x8192x512, .f32⟩
  | .hbm, ⟨14, _⟩ => ⟨S_, .f32⟩
  | .hbm, ⟨15, _⟩ => ⟨S4x8192x512, .f32⟩
  | .hbm, ⟨16, _⟩ => ⟨S4x8192x512, .f32⟩
  | .hbm, ⟨17, _⟩ => ⟨S4x8192x512, .f32⟩
  | .hbm, ⟨18, _⟩ => ⟨S_, .f32⟩
  | .hbm, ⟨19, _⟩ => ⟨S4x8192x512, .f32⟩
  | .hbm, ⟨20, _⟩ => ⟨S4x8192x512, .f32⟩
  | .hbm, ⟨21, _⟩ => ⟨S4x8192x512, .f32⟩
  | .hbm, ⟨22, _⟩ => ⟨S_, .f32⟩
  | .hbm, ⟨23, _⟩ => ⟨S4x8192x512, .f32⟩
  | .hbm, ⟨24, _⟩ => ⟨S4x8192x512, .f32⟩
  | .hbm, ⟨25, _⟩ => ⟨S_, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x1024, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S_, .f32⟩
  | .hbm, ⟨35, _⟩ => ⟨S4x8192x512, .f32⟩
  | .hbm, ⟨36, _⟩ => ⟨S4x8192x512, .f32⟩
  | .hbm, ⟨37, _⟩ => ⟨S_, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x512, .f32⟩
  | .hbm, ⟨53, _⟩ => ⟨S4x8192x512, .f32⟩
  | .hbm, ⟨54, _⟩ => ⟨S1x1x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S4x8192x512, .f32⟩
  | .hbm, ⟨69, _⟩ => ⟨S4x8192x512, .f32⟩
  | .hbm, ⟨70, _⟩ => ⟨S1x1x512, .f32⟩
  | .hbm, ⟨71, _⟩ => ⟨S4x8192x512, .f32⟩
  | .hbm, ⟨72, _⟩ => ⟨S4x8192x512, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | .hbm, ⟨92, _⟩ => ⟨S4x8192x2816, .f32⟩
  | .hbm, ⟨93, _⟩ => ⟨S4x8192x2816, .f32⟩
  | .hbm, ⟨94, _⟩ => ⟨S4x8192x2816, .f32⟩
  | .hbm, ⟨95, _⟩ => ⟨S_, .f32⟩
  | .hbm, ⟨96, _⟩ => ⟨S4x8192x2816, .f32⟩
  | .hbm, ⟨97, _⟩ => ⟨S4x8192x2816, .f32⟩
  | .hbm, ⟨98, _⟩ => ⟨S_, .f32⟩
  | .hbm, ⟨99, _⟩ => ⟨S4x8192x2816, .f32⟩
  | .hbm, ⟨100, _⟩ => ⟨S4x8192x2816, .f32⟩
  | .hbm, ⟨101, _⟩ => ⟨S4x8192x2816, .f32⟩
  | .hbm, ⟨102, _⟩ => ⟨S4x8192x2816, .f32⟩
  | .hbm, ⟨103, _⟩ => ⟨S4x8192x2816, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S_, .f32⟩
  | .hbm, ⟨108, _⟩ => ⟨S4x8192, .f32⟩
  | .hbm, ⟨109, _⟩ => ⟨S4x8192x1, .f32⟩
  | .hbm, ⟨110, _⟩ => ⟨S_, .f32⟩
  | .hbm, ⟨111, _⟩ => ⟨S4x8192x1, .f32⟩
  | .hbm, ⟨112, _⟩ => ⟨S4x8192x1, .f32⟩
  | .hbm, ⟨113, _⟩ => ⟨S_, .f32⟩
  | .hbm, ⟨114, _⟩ => ⟨S4x8192x1, .f32⟩
  | .hbm, ⟨115, _⟩ => ⟨S4x8192x1, .f32⟩
  | .hbm, ⟨116, _⟩ => ⟨S4x8192x1, .f32⟩
  | .hbm, ⟨117, _⟩ => ⟨S4x8192x1024, .f32⟩
  | .hbm, ⟨118, _⟩ => ⟨S4x8192x1024, .f32⟩
  | .hbm, ⟨119, _⟩ => ⟨S1x1x1024, .f32⟩
  | .hbm, ⟨120, _⟩ => ⟨S4x8192x1024, .f32⟩
  | .hbm, ⟨121, _⟩ => ⟨S4x8192x1024, .f32⟩
  | .hbm, ⟨122, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Proof.FoxRun.lean ====
module

public import proofs.«01_k».proof.Proof.Gen.FoxIdeal.Frame.Runs

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000 in
/-- The pieces that the body stores into the output block, as a function of the three input blocks and of what the two
    score buffers hold when the body starts, with the body's triple: from the inputs at `x0`, `x1`, `x2` and the score
    buffers at `g7`, `g8` it ends with the inputs unchanged and the output block at those pieces. -/
def bodyRun (c : Dev nD) (i : grid0.Coords) (arg3 : Memref sig .tc .vmem S1x4x32x256x128 .bf16) (harg3 : arg3.IsWhole) (arg4 : Memref sig .tc .vmem S1x4x128x512 .bf16) (harg4 : arg4.IsWhole) (arg5 : Memref sig .tc .vmem S1x4x32x80x256 .bf16) (harg5 : arg5.IsWhole) (arg6 : Memref sig .tc .vmem S1x256x512 .f32) (harg6 : arg6.IsWhole) (arg7 : Memref sig .tc .vmem S4x256x512 .f32) (harg7 : arg7.IsWhole) (arg8 : Memref sig .tc .vmem S4x256x512 .f32) (harg8 : arg8.IsWhole)
    (x0 : Vec F S1x4x32x256x128 .bf16) (x1 : Vec F S1x4x128x512 .bf16) (x2 : Vec F S1x4x32x80x256 .bf16)
    (g7 : BufTy.Contents (Elt F) arg7.view.ty) (g8 : BufTy.Contents (Elt F) arg8.view.ty) :
    { L3 : List (View.Piece (Elt F) S1x256x512 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (arg7.view.loc (c : Thread nD τ) ↦[arg7.view.set]{fullShare} g7) ∗ (arg8.view.loc (c : Thread nD τ) ↦[arg8.view.set]{fullShare} g8)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d)) -∗ K ⟨⟩))
          ⊢ wp frame (wpE (defs₀ (F := F)) Variants.none c none) E (cc0_fox_prompt i arg3 harg3 arg4 harg4 arg5 harg5 arg6 harg6 arg7 harg7 arg8 harg8) K } := by
  refine ⟨?_, fun E K => ?run⟩
  case run =>
    simp only [cc0_fox_prompt_eq_skeleton]; unfold cc0_fox_prompt_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%d3, %f3, -, H3⟩, HS0, HS1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    iexists _, _; isplitr; swap; · iexact HS1
    ipureintro; rfl

end Cert.FoxIdeal.Hand
-- ==== Proof.FoxIdealFrame.lean ====
module

public import proofs.«01_k».proof.Proof.FoxRun
public import Idealize.ShloMosaic.Lib.Claim

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body, from the inputs at `x0`, `x1`, `x2` and the other buffers at anything: the inputs end unchanged and the others at
    some contents. -/
theorem bodyTriple (c : Dev nD) (i : grid0.Coords) (arg3 : Memref sig .tc .vmem S1x4x32x256x128 .bf16) (harg3 : arg3.IsWhole) (arg4 : Memref sig .tc .vmem S1x4x128x512 .bf16) (harg4 : arg4.IsWhole) (arg5 : Memref sig .tc .vmem S1x4x32x80x256 .bf16) (harg5 : arg5.IsWhole) (arg6 : Memref sig .tc .vmem S1x256x512 .f32) (harg6 : arg6.IsWhole) (arg7 : Memref sig .tc .vmem S4x256x512 .f32) (harg7 : arg7.IsWhole) (arg8 : Memref sig .tc .vmem S4x256x512 .f32) (harg8 : arg8.IsWhole)
    (x0 : Vec F S1x4x32x256x128 .bf16) (x1 : Vec F S1x4x128x512 .bf16) (x2 : Vec F S1x4x32x80x256 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fox_prompt i arg3 harg3 arg4 harg4 arg5 harg5 arg6 harg6 arg7 harg7 arg8 harg8) K := by
  iintro ⟨H0, H1, H2, H3, ⟨%ds0, HS0⟩, ⟨%ds1, HS1⟩, Hk⟩
  unfold owns
  icases HS0 with ⟨%fs0, -, HS0⟩
  icases HS1 with ⟨%fs1, -, HS1⟩
  iapply ((bodyRun c i arg3 harg3 arg4 harg4 arg5 harg5 arg6 harg6 arg7 harg7 arg8 harg8 x0 x1 x2 fs0 fs1).2 E K)
  unfold owns
  isplitl [H0]; · iexact H0
  isplitl [H1]; · iexact H1
  isplitl [H2]; · iexact H2
  isplitl [H3]; · iexact H3
  isplitl [HS0]; · iexact HS0
  isplitl [HS1]; · iexact HS1
  iintro ⟨H0, H1, H2, ⟨%f3, H3⟩, HS0, HS1⟩
  iapply Hk
  isplitl [H0]; · iexact H0
  isplitl [H1]; · iexact H1
  isplitl [H2]; · iexact H2
  isplitl [H3]
  · iexists _, _; isplitr; swap; · iexact H3
    ipureintro; rfl
  isplitl [HS0]; · iexact HS0
  iexact HS1

variable (m : (ℓ : Loc nD τ sig) → Buf (Elt F) ℓ) (ρ : Dev nD → PrngReg)

/-- The output window is not described: what the body leaves there stays open. -/
def openOut : Fin 4 → Bool := fun w => w.val == 3

/-- What the pipeline's windows hold: the arrays as they are when the region starts, each input's buffer at its block after
    the body, nothing said of the output. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem frameDats_A (c : Dev nD) (w : Fin cfg0.W) : (frameDats m 0 c).A w = V m c (Pipeline.arrRef spec0 w) := by
  dsimp only [frameDats]
theorem frameDats_after0 (c : Dev nD) (t : Fin cfg0.N) : (frameDats m 0 c).after 0 t = iblk m c 0 t := by
  dsimp only [frameDats]
theorem frameDats_after1 (c : Dev nD) (t : Fin cfg0.N) : (frameDats m 0 c).after 1 t = iblk m c 1 t := by
  dsimp only [frameDats]
theorem frameDats_after2 (c : Dev nD) (t : Fin cfg0.N) : (frameDats m 0 c).after 2 t = iblk m c 2 t := by
  dsimp only [frameDats]
theorem frameDats_before0 (c : Dev nD) (t : Fin cfg0.N) (d) : (frameDats m 0 c).before 0 t d = iblk m c 0 t :=
  before0_0_of m (frameDats m 0 c) (frameDats_A m c 0) (frameDats_after0 m c) t d
theorem frameDats_before1 (c : Dev nD) (t : Fin cfg0.N) (d) : (frameDats m 0 c).before 1 t d = iblk m c 1 t :=
  before0_1_of m (frameDats m 0 c) (frameDats_A m c 1) (frameDats_after1 m c) t d
theorem frameDats_before2 (c : Dev nD) (t : Fin cfg0.N) (d) : (frameDats m 0 c).before 2 t d = iblk m c 2 t :=
  before0_2_of m (frameDats m 0 c) (frameDats_A m c 2) (frameDats_after2 m c) t d

/-- The body at a grid point, from the inputs' blocks: it ends with them unchanged and the output and the scratch at some
    contents. -/
theorem frame_body (c : Dev nD) (t : Fin cfg0.N) :
    iprop((frameDats m 0 c).Φ t.castSucc ∗ (frameDats m 0 c).owesAt () t.castSucc
      ∗ (∃ d, owns (c : Thread nD τ) (ms0_0 t) fullShare ((frameDats m 0 c).before 0 t d))
      ∗ (∃ d, owns (c : Thread nD τ) (ms0_1 t) fullShare ((frameDats m 0 c).before 1 t d))
      ∗ (∃ d, owns (c : Thread nD τ) (ms0_2 t) fullShare ((frameDats m 0 c).before 2 t d))
      ∗ (∃ d, owns (c : Thread nD τ) (ms0_3 t) fullShare d))
    ⊢ wp frame (wpE (defs₀ (F := F)) Variants.none c none) Set.univ (bodyAt0 t)
      (fun _ => (iprop((frameDats m 0 c).Φ t.succ ∗ (frameDats m 0 c).owesAt () t.succ
      ∗ owns (c : Thread nD τ) (ms0_0 t) fullShare ((frameDats m 0 c).after 0 t)
      ∗ owns (c : Thread nD τ) (ms0_1 t) fullShare ((frameDats m 0 c).after 1 t)
      ∗ owns (c : Thread nD τ) (ms0_2 t) fullShare ((frameDats m 0 c).after 2 t)
      ∗ (∃ d, owns (c : Thread nD τ) (ms0_3 t) fullShare d)) : sProp 𝕄)) := by
  unfold bodyAt0
  simp only [frameDats_before0, frameDats_before1, frameDats_before2]
  rw [show (frameDats m 0 c).Φ t.succ = (frameDats m 0 c).Φ t.castSucc from rfl,
    show (frameDats m 0 c).owesAt () t.succ = (frameDats m 0 c).owesAt () t.castSucc from rfl,
    frameDats_after0, frameDats_after1, frameDats_after2]
  rw [show (frameDats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply ((bodyTriple c (grid0.coords t) _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at a grid point is the body. -/
theorem body_row (t : Fin cfg0.N) :
    defs₀ (F := F) .tc cfg0.body (cfg0.bodyArgs t (cfg0.slots t)) = bodyAt0 t := by
  unfold defs₀; rw [Defs.onTc_tc]

theorem frame_obligation (c : Dev nD) :
    BodyObligation (frameDats (F := F) m 0 c) (defs₀ (F := F)) Variants.none () Set.univ openOut := fun t => by
  rw [bigSep_W0, bigSep_W0, body_row]
  exact triple_restated (frame_body m c t) rfl .rfl fun _ => .rfl

set_option backward.isDefEq.respectTransparency.types false in
theorem frame_run : θ_run defs (onTc (τ := τ) (main (F := F))) (s₀ m ρ) (fun r =>
    (Pipeline.RDat.FramePost (cfgs 0) (fun c => (frameDats m 0 c).toRForget openOut) (V m)) r ∧ r.2.sem = fun _ => 0) :=
  Pipeline.θ_run_frame_forget (Q' := _) cfgs (frameDats m) (0 : Fin 1) launch0 defs₀ Variants.none openOut m ρ main
    (hbody := fun c => (frame_obligation m c).loose) (hshare := fun c => (frameDats m 0 c).share_full fun _ => rfl)
    (howed := fun _ _ => rfl) (V := V m) (hmain := hmain m Variants.none) (hA := frameDats_A m) (hΦ := fun _ _ => rfl)

/-- The program runs, its arguments end unchanged, and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and
    ((θ_run defs _ _).mono (fun _ h c =>
        ⟨((h c).2 main_arg0 (Pipeline.mem_restRefs_of main_arg0 (by decide) (by decide))).trans (V_main_arg0 m c),
          ((h c).2 main_arg1 (Pipeline.mem_restRefs_of main_arg1 (by decide) (by decide))).trans (V_main_arg1 m c),
          ((h c).2 main_arg2 (Pipeline.mem_restRefs_of main_arg2 (by decide) (by decide))).trans (V_main_arg2 m c),
          ((h c).2 main_arg3 (Pipeline.mem_restRefs_of main_arg3 (by decide) (by decide))).trans (V_main_arg3 m c)⟩)
      ((θ_run defs _ _).mono (fun _ h => h.1) (frame_run m ρ)))
    ((θ_run defs _ _).mono (fun _ h => h.2) (frame_run m ρ))

end Cert.FoxIdeal.Hand
-- ==== Proof.FoxMath.lean ====
module

public import Idealize.ShloMosaic.PureOps.Ideal
public import Mathlib.Analysis.SpecialFunctions.Pow.Real
public import Mathlib.Data.EReal.Inv

/-! The arithmetic of the base-2 running softmax over the extended reals, free of any program: the state a
column of the attention carries while it walks the keys block by block, what one block does to it, and why the
quotient at the end is the softmax the reference writes. -/

@[expose] public section

noncomputable section

namespace Cert.FoxMath

open Idealize.ShloMosaic Finset

/-- The weight `2 ^ (z - ρ)` of a score `z` that is real or `⊥`, as a real: zero at `⊥`. -/
def pw (z : EReal) (ρ : ℝ) : ℝ := if z = ⊥ then 0 else (2 : ℝ) ^ (z.toReal - ρ)

theorem pw_nonneg (z : EReal) (ρ : ℝ) : 0 ≤ pw z ρ := by
  unfold pw; split_ifs
  · exact le_rfl
  · positivity

/-- The power of two of a score less a real is that weight. -/
theorem exp2_sub (z : EReal) (hz : z ≠ ⊤) (ρ : ℝ) : Ideal.exp2 (z - (ρ : EReal)) = (pw z ρ : EReal) := by
  induction z with
  | bot => rw [EReal.bot_sub, pw, if_pos rfl]; rfl
  | top => exact absurd rfl hz
  | coe x => rw [← EReal.coe_sub, pw, if_neg (EReal.coe_ne_bot x), EReal.toReal_coe]; rfl

/-- Moving the subtracted maximum from `ρ` to `ρ'` multiplies the weight by `2 ^ (ρ - ρ')`. -/
theorem pw_shift (z : EReal) (ρ ρ' : ℝ) : (2 : ℝ) ^ (ρ - ρ') * pw z ρ = pw z ρ' := by
  unfold pw; split_ifs
  · simp
  · rw [← Real.rpow_add (by norm_num)]; congr 1; ring

/-- A nonnegative real factor goes into a finite sum of extended reals. -/
theorem coe_mul_sum {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [sum_insert hi, sum_insert hi, EReal.left_distrib_of_nonneg_of_ne_top (by exact_mod_cast ha) (EReal.coe_ne_top a), ih]

/-- The maximum of a family none of whose members is `⊤`, taken from `⊥`, is not `⊤`. -/
theorem fold_max_ne_top {n : ℕ} (f : Fin n → EReal) (hf : ∀ k, f k ≠ ⊤) : univ.fold max (⊥ : EReal) f ≠ ⊤ := by
  apply ne_of_lt
  rw [Finset.fold_max_lt]
  exact ⟨bot_lt_top, fun k _ => lt_top_iff_ne_top.mpr (hf k)⟩

/-- What a column carries after the first `n` keys: nothing yet (`⊥` and zeros), or a real number `ρ` and, row by
row, the values of the keys weighted by `2 ^ (z - ρ)`. -/
def St (m : EReal) (a : Fin 80 → EReal) (z : ℕ → EReal) (V : Fin 80 → ℕ → EReal) (n : ℕ) : Prop :=
  (m = ⊥ ∧ (∀ r, a r = 0) ∧ n = 0) ∨
    ∃ ρ : ℝ, m = (ρ : EReal) ∧ ∀ r, a r = ∑ j ∈ range n, (pw (z j) ρ : EReal) * V r j

/-- The start: the state of no keys. -/
theorem St.zero (z : ℕ → EReal) (V : Fin 80 → ℕ → EReal) : St ⊥ (fun _ => 0) z V 0 := Or.inl ⟨rfl, fun _ => rfl, rfl⟩

/-- One block of 256 keys: the maximum moves up, what was accumulated is scaled down by the difference, the block's
values are added under their weights. -/
theorem St.step {m : EReal} {a : Fin 80 → EReal} {z : ℕ → EReal} {V : Fin 80 → ℕ → EReal} {n : ℕ}
    (h : St m a z V n) (hz : ∀ j, z j ≠ ⊤) (h0 : z 0 ≠ ⊥)
    (zb : Fin 256 → EReal) (Vb : Fin 80 → Fin 256 → EReal)
    (hzb : ∀ k : Fin 256, zb k = z (n + k)) (hVb : ∀ r (k : Fin 256), Vb r k = V r (n + k))
    (m' : EReal) (hm' : m' = max m (univ.fold max (⊥ : EReal) zb))
    (a' : Fin 80 → EReal)
    (ha' : ∀ r, a' r = Ideal.exp2 (m - m') * a r + ∑ k : Fin 256, Vb r k * Ideal.exp2 (zb k - m')) :
    St m' a' z V (n + 256) := by
  have hmt : m ≠ ⊤ := by
    rcases h with ⟨rfl, -⟩ | ⟨ρ, rfl, -⟩
    · exact bot_ne_top
    · exact EReal.coe_ne_top ρ
  have ht : m' ≠ ⊤ := by
    rw [hm']
    rcases max_choice m (univ.fold max (⊥ : EReal) zb) with e | e <;> rw [e]
    · exact hmt
    · exact fold_max_ne_top _ fun k => by rw [hzb]; exact hz _
  have hb : m' ≠ ⊥ := by
    rcases h with ⟨rfl, -, rfl⟩ | ⟨ρ, rfl, -⟩
    · have h1 : z 0 ≤ m' := by
        rw [hm']
        refine le_trans ?_ (le_max_right _ _)
        rw [Finset.le_fold_max]
        exact Or.inr ⟨0, mem_univ _, by rw [hzb]; simp⟩
      exact fun e => h0 (le_bot_iff.mp (e ▸ h1))
    · have h1 : (ρ : EReal) ≤ m' := by rw [hm']; exact le_max_left _ _
      exact fun e => EReal.coe_ne_bot ρ (le_bot_iff.mp (e ▸ h1))
  refine Or.inr ⟨m'.toReal, (EReal.coe_toReal ht hb).symm, fun r => ?_⟩
  obtain ⟨ρ', rfl⟩ : ∃ ρ' : ℝ, m' = (ρ' : EReal) := ⟨m'.toReal, (EReal.coe_toReal ht hb).symm⟩
  rw [EReal.toReal_coe, ha', sum_range_add]
  congr 1
  · rcases h with ⟨rfl, ha, rfl⟩ | ⟨ρ, rfl, ha⟩
    · simp [ha]
    · rw [ha, ← EReal.coe_sub, show Ideal.exp2 ((ρ - ρ' : ℝ) : EReal) = (((2 : ℝ) ^ (ρ - ρ') : ℝ) : EReal) from rfl,
        coe_mul_sum _ (by positivity)]
      refine sum_congr rfl fun j _ => ?_
      rw [← mul_assoc, ← EReal.coe_mul, pw_shift]
  · rw [Finset.sum_range]
    refine sum_congr rfl fun k _ => ?_
    rw [hzb, hVb, exp2_sub _ (hz _), mul_comm]

/-- The logarithm to base two of `e`. -/
def log2e : ℝ := 1 / Real.log 2

theorem log2e_pos : 0 < log2e := by unfold log2e; have := Real.log_pos (show (1 : ℝ) < 2 by norm_num); positivity

theorem two_rpow_log2e_mul (x : ℝ) : (2 : ℝ) ^ (log2e * x) = Real.exp x := by
  have := Real.log_pos (show (1 : ℝ) < 2 by norm_num)
  rw [Real.rpow_def_of_pos (by norm_num)]; congr 1; unfold log2e; field_simp

/-- The end of a column: with scores `z` that are `log2e` times the reference's `s` up to key `t` and `⊥` after it, and row 64
all ones, the quotient of a row by row 64 is the reference's sum of the values under its own softmax weights. -/
theorem St.quotient {m : EReal} {a : Fin 80 → EReal} {z : ℕ → EReal} {V : Fin 80 → ℕ → EReal} {n N : ℕ} (hN : 0 < N)
    (h : St m a z V n) (t : ℕ) (ht : t < n) (hn : n ≤ N) (s : ℕ → ℝ)
    (hz : ∀ j, z j = if j ≤ t then ((log2e * s j : ℝ) : EReal) else ⊥)
    (hV : ∀ j, V 64 j = 1) (ζ : Fin N → EReal) (hζ : ∀ j : Fin N, ζ j = if (j : ℕ) ≤ t then (s j : EReal) else ⊥)
    (M : EReal) (hM : M = max ⊥ (univ.fold max (⊥ : EReal) ζ)) (d : Fin 80) :
    Ideal.div (a d) (a 64)
      = ∑ j : Fin N, V d j * Ideal.div (Ideal.exp (ζ j - M)) (0 + ∑ j : Fin N, Ideal.exp (ζ j - M)) := by
  have hMt : M ≠ ⊤ := by
    rw [hM, max_eq_right bot_le]
    refine fold_max_ne_top _ fun k => ?_
    rw [hζ]; split_ifs
    · exact EReal.coe_ne_top _
    · exact bot_ne_top
  have hMb : M ≠ ⊥ := by
    have h1 : ζ ⟨0, hN⟩ ≤ M := by
      rw [hM, max_eq_right bot_le, Finset.le_fold_max]
      exact Or.inr ⟨_, mem_univ _, le_rfl⟩
    rw [hζ, if_pos (Nat.zero_le t)] at h1
    exact fun e => EReal.coe_ne_bot _ (le_bot_iff.mp (e ▸ h1))
  obtain ⟨μ, rfl⟩ : ∃ μ : ℝ, M = (μ : EReal) := ⟨M.toReal, (EReal.coe_toReal hMt hMb).symm⟩
  rcases h with ⟨-, -, rfl⟩ | ⟨ρ, -, ha⟩
  · omega
  let e : ℕ → ℝ := fun j => if j ≤ t then Real.exp (s j - μ) else 0
  have he0 : ∀ j, 0 ≤ e j := fun j => by simp only [e]; split_ifs <;> positivity
  have he : ∀ j : Fin N, Ideal.exp (ζ j - (μ : EReal)) = (e j : EReal) := fun j => by
    rw [hζ]; simp only [e]; split_ifs
    · rw [← EReal.coe_sub]; rfl
    · rw [EReal.bot_sub]; rfl
  let κ : ℝ := (2 : ℝ) ^ (log2e * μ - ρ)
  have hκ : 0 < κ := by positivity
  have hw : ∀ j, pw (z j) ρ = κ * e j := fun j => by
    rw [hz]; unfold pw; simp only [e]
    split_ifs with h1 h2
    · exact absurd h2 (EReal.coe_ne_bot _)
    · rw [EReal.toReal_coe, ← two_rpow_log2e_mul, ← Real.rpow_add (by norm_num)]; congr 1; ring
    · simp
    · exact absurd rfl ‹¬ (⊥ : EReal) = ⊥›
  have hsum : ∀ r, a r = (κ : EReal) * ∑ j : Fin N, (e j : EReal) * V r j := fun r => by
    rw [ha, coe_mul_sum _ hκ.le, ← Finset.sum_range (fun j => (κ : EReal) * ((e j : EReal) * V r j))]
    rw [← Finset.sum_subset (Finset.range_mono hn) (f := fun j => (κ : EReal) * ((e j : EReal) * V r j))]
    · refine sum_congr rfl fun j _ => ?_
      rw [hw, EReal.coe_mul, mul_assoc]
    · intro j _ hj
      have : ¬ j ≤ t := by simp at hj; omega
      simp [e, this]
  let D : ℝ := ∑ j : Fin N, e j
  have hD : 0 < D := by
    refine Finset.sum_pos' (fun j _ => he0 _) ⟨⟨0, hN⟩, mem_univ _, ?_⟩
    simp only [e]; rw [if_pos (Nat.zero_le t)]; positivity
  have hDe : ∑ j : Fin N, (e j : EReal) = (D : EReal) := by
    exact (map_sum (⟨⟨fun x : ℝ => (x : EReal), EReal.coe_zero⟩, EReal.coe_add⟩ : ℝ →+ EReal) (fun j : Fin N => e j) univ).symm
  have h64 : a 64 = ((κ * D : ℝ) : EReal) := by
    rw [hsum, EReal.coe_mul, ← hDe]; simp only [hV, mul_one]
  simp only [he, hDe, zero_add]
  rw [h64, hsum]
  have hne : ((κ * D : ℝ) : EReal) ≠ 0 := by
    rw [Ne, EReal.coe_eq_zero]; positivity
  have hne' : (D : EReal) ≠ 0 := by rw [Ne, EReal.coe_eq_zero]; positivity
  unfold Ideal.div
  simp only [if_neg hne, if_neg hne']
  rw [mul_comm (_ * _), ← mul_assoc, ← EReal.coe_inv, ← EReal.coe_mul,
    show (κ * D)⁻¹ * κ = D⁻¹ by field_simp, coe_mul_sum _ (by positivity)]
  refine sum_congr rfl fun j _ => ?_
  rw [← EReal.coe_inv, mul_comm (V d j), ← EReal.coe_mul, ← mul_assoc, ← EReal.coe_mul, mul_comm D⁻¹]

end Cert.FoxMath

end
-- ==== Proof.FoxRef.lean ====
module

public import proofs.«01_k».proof.Proof.Gen.FoxRefIdeal.Read
public import Idealize.ShloMosaic.Lib.Pointwise
public import Idealize.ShloMosaic.Lib.WordCmp

@[expose] public section

set_option maxRecDepth 16384

noncomputable section

namespace Cert.FoxRefIdeal.Hand

open Cert.FoxRefIdeal Cert.FoxRefIdeal.Read Idealize.ShloMosaic Idealize.ShloMosaic.TcCoe

variable (q k v : FVec Ideal S4x8192x8x64 .f32) (c : FVec Ideal S4x8x8192 .f32)

/-- A key's logit for a query: their scaled product, less the gates between them. -/
def logit (b : Fin 4) (h : Fin 8) (x j : Fin 8192) : EReal :=
  (∑ d : Fin 64, q (ix4 b x h d) * k (ix4 b j h d)) * Ideal.ofBits .f32 0x3E000000#32 + c (ix3 b h x) - c (ix3 b h j)

theorem eighth_bits : Ideal.ofBits FTy.f32 0x3E000000#32 = ((1 / 8 : ℝ) : EReal) := by
  simp [Ideal.ofBits, Ideal.ieee, -EReal.coe_mul]
  norm_num

theorem coe_sum {ι : Type*} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

/-- The logit of real arguments. -/
def realLogit (Q K : S4x8192x8x64.Idx → ℝ) (C : S4x8x8192.Idx → ℝ) (b : Fin 4) (h : Fin 8) (x j : Fin 8192) : ℝ :=
  (∑ d : Fin 64, Q (ix4 b x h d) * K (ix4 b j h d)) * (1 / 8) + C (ix3 b h x) - C (ix3 b h j)

theorem logit_real (Q K : S4x8192x8x64.Idx → ℝ) (C : S4x8x8192.Idx → ℝ) (hq : ∀ i, q i = (Q i : EReal)) (hk : ∀ i, k i = (K i : EReal))
    (hc : ∀ i, c i = (C i : EReal)) (b : Fin 4) (h : Fin 8) (x j : Fin 8192) : logit q k c b h x j = (realLogit Q K C b h x j : EReal) := by
  unfold logit realLogit
  rw [eighth_bits, hc, hc, EReal.coe_sub, EReal.coe_add, EReal.coe_mul, ← coe_sum]
  simp only [hq, hk, EReal.coe_mul]

/-- Causality: a later key has no weight. -/
def causal (b : Fin 4) (h : Fin 8) (x j : Fin 8192) : EReal := if j.val ≤ x.val then logit q k c b h x j else ⊥

/-- A query's greatest logit. -/
def top (b : Fin 4) (h : Fin 8) (x : Fin 8192) : EReal := max ⊥ (Finset.univ.fold max ⊥ (causal q k c b h x))

theorem bot_bits : Ideal.ofBits FTy.f32 0xFF800000#32 = ⊥ := by
  simp [Ideal.ofBits, Ideal.ieee]

theorem v8_at (b : Fin 4) (h : Fin 8) (x j : Fin 8192) :
    val_main_v8 (F := Ideal) q k c (ix4 b h x j) = logit q k c b h x j := by
  rw [val_main_v8_apply, val_main_v7_apply, val_main_v6_apply, val_main_v5_apply, val_main_v4_apply, val_main_v3_apply, val_main_v2_apply,
    val_main_v1_apply, val_main_cst_apply, val_main_v0_apply]
  have e1 : ∀ d, lidx_main_v0 (ix4 b h x j) d = ix4 b x h d := fun d => by funext a; fin_cases a <;> rfl
  have e2 : ∀ d, ridx_main_v0 (ix4 b h x j) d = ix4 b j h d := fun d => by funext a; fin_cases a <;> rfl
  have e3 : idx_main_v3 (idx_main_v4 (ix4 b h x j)) = ix3 b h x := by funext a; fin_cases a <;> rfl
  have e4 : idx_main_v6 (idx_main_v7 (ix4 b h x j)) = ix3 b h j := by funext a; fin_cases a <;> rfl
  simp only [e1, e2, e3, e4]
  rfl

theorem mask_at (b : Fin 4) (h : Fin 8) (x j : Fin 8192) :
    val_main_call0_v1 (F := Ideal) (ix4 b h x j) = 1#1 ↔ j.val ≤ x.val := by
  rw [val_main_call0_v1_apply, val_main_v14_apply, val_main_v12_apply, val_main_v13_apply, val_main_v10_apply, val_main_v11_apply,
    val_main_v9_apply, val_main_v9_apply]
  exact WordCmp.cmpi_sle_ofNat_eq_one_iff (a := j.val) (b := x.val) (by have := j.isLt; omega) (by have := x.isLt; omega)

theorem v15_at (b : Fin 4) (h : Fin 8) (x j : Fin 8192) :
    val_main_v15 (F := Ideal) q k c (ix4 b h x j) = causal q k c b h x j := by
  rw [val_main_v15_apply, v8_at, val_main_call0_v2_apply]
  unfold causal Scalar.select
  by_cases hm : j.val ≤ x.val
  · rw [if_pos hm]
    exact if_pos ((mask_at b h x j).2 hm)
  · rw [if_neg hm]
    exact (if_neg (mt (mask_at b h x j).1 hm)).trans bot_bits

theorem v18_at (b : Fin 4) (h : Fin 8) (x : Fin 8192) :
    val_main_v18 (F := Ideal) q k c (ix3 b h x) = top q k c b h x := by
  rw [val_main_v18_apply, val_main_v17_apply, val_main_cst_2_apply]
  unfold val_main_v16 top
  simp only [pointwise, v15_at, val_main_cst_1_apply, bot_bits]

theorem v22_at (b : Fin 4) (h : Fin 8) (x j : Fin 8192) :
    val_main_v22 (F := Ideal) q k c (ix4 b h x j) = Ideal.exp (causal q k c b h x j - top q k c b h x) := by
  have e : idx_main_v19 (idx_main_v20 (ix4 b h x j)) = ix3 b h x := by funext a; fin_cases a <;> rfl
  rw [val_main_v22_apply, val_main_v21_apply, val_main_v20_apply, val_main_v19_apply, e, v15_at, v18_at]
  generalize causal q k c b h x j = y
  generalize top q k c b h x = z
  rfl

theorem v26_at (b : Fin 4) (h : Fin 8) (x j : Fin 8192) :
    val_main_v26 (F := Ideal) q k c (ix4 b h x j) = Ideal.div (Ideal.exp (causal q k c b h x j - top q k c b h x))
      (0 + ∑ j : Fin 8192, Ideal.exp (causal q k c b h x j - top q k c b h x)) := by
  have e : ∀ y, idx_main_v23 (idx_main_v24 (idx_main_v25 (ix4 b h x j))) y = ix4 b h x y := fun y => by funext a; fin_cases a <;> rfl
  rw [val_main_v26_apply, v22_at, val_main_v25_apply, val_main_v24_apply, val_main_v23_apply, val_main_cst_3_apply]
  simp only [e, v22_at, Ideal.ofBits_def, Ideal.ofBits_zero_f32]
  generalize causal q k c b h x = y
  generalize top q k c b h x = z
  rfl

/-- An entry of the reference's result: the values of the query's head, weighted. -/
theorem result_at (b : Fin 4) (h : Fin 8) (d : Fin 64) (x : Fin 8192) (r : Fin 512) (hr : r.val = 64 * h.val + d.val) :
    val_main_v30 (F := Ideal) q k v c (ix3 b r x) = ∑ j : Fin 8192, v (ix4 b j h d)
      * Ideal.div (Ideal.exp (causal q k c b h x j - top q k c b h x))
        (0 + ∑ j : Fin 8192, Ideal.exp (causal q k c b h x j - top q k c b h x)) := by
  simp only [← v26_at]
  rw [val_main_v30_apply, val_main_v29_apply, val_main_v28_apply, val_main_v27_apply]
  have e : idx_main_v28 (idx_main_v29 (idx_main_v30 (ix3 b r x))) = ix4 b h d x := by
    have hb := b.isLt
    have hh := h.isLt
    have hd := d.isLt
    have hx := x.isLt
    funext a
    fin_cases a
    · exact Fin.ext (show ((b.val * 8192 + x.val) * 512 + r.val) / 4194304 = b.val by omega)
    · exact Fin.ext (show ((b.val * 8192 + x.val) * 512 + r.val) / 64 % 8 = h.val by omega)
    · exact Fin.ext (show ((b.val * 8192 + x.val) * 512 + r.val) % 64 = d.val by omega)
    · exact Fin.ext (show ((b.val * 8192 + x.val) * 512 + r.val) / 512 % 8192 = x.val by omega)
  have e1 : ∀ y, lidx_main_v27 (ix4 b h d x) y = ix4 b y h d := fun y => by funext a; fin_cases a <;> rfl
  have e2 : ∀ y, ridx_main_v27 (ix4 b h d x) y = ix4 b h x y := fun y => by funext a; fin_cases a <;> rfl
  simp only [e, e1, e2]

end Cert.FoxRefIdeal.Hand

end
-- ==== Proof.FoxHost.lean ====
module

public import proofs.«01_k».proof.Proof.Gen.FoxIdeal.Frame.Runs
public import proofs.«01_k».proof.Proof.FoxMath
public import proofs.«01_k».proof.Proof.FoxRef
public import Idealize.ShloMosaic.Lib.Pointwise
public import Idealize.ShloMosaic.Lib.IdealHost
public import Idealize.ShloMosaic.Lib.Claim

@[expose] public section

set_option maxRecDepth 16384

noncomputable section

namespace Cert.FoxIdeal.Hand

open Cert.FoxIdeal Cert.FoxIdeal.Gen Cert.FoxMath Idealize.ShloMosaic Idealize.ShloMosaic.TcCoe Idealize.ShloMosaic.Tactic Idealize.SL.Sem

/-! ## The arrays the host lines make of the arguments -/

/-- The base-two logarithm of Euler's number, as the host computes it. -/
def hostLog2e : FVec Ideal S_ .f32 := Host.divf (constant S_ .f32 0x3F800000#32) (Host.log (constant S_ .f32 0x40000000#32))

/-- The gates in base two, and the three pieces they are split in. -/
def gate2 (c : FVec Ideal S4x8x8192 .f32) : FVec Ideal S4x8x8192 .f32 := mulf c (broadcastInDim S4x8x8192 ![] bcast_S_S4x8x8192 hostLog2e)
def gateHi (c : FVec Ideal S4x8x8192 .f32) : FVec Ideal S4x8x8192 .bf16 := truncf .bf16 (gate2 c) bitsLt_bf16_f32
def gateRest (c : FVec Ideal S4x8x8192 .f32) : FVec Ideal S4x8x8192 .f32 := subf (gate2 c) (extf .f32 (gateHi c) bitsLt_bf16_f32)
def gateMid (c : FVec Ideal S4x8x8192 .f32) : FVec Ideal S4x8x8192 .bf16 := truncf .bf16 (gateRest c) bitsLt_bf16_f32
def gateLo (c : FVec Ideal S4x8x8192 .f32) : FVec Ideal S4x8x8192 .bf16 :=
  truncf .bf16 (subf (gateRest c) (extf .f32 (gateMid c) bitsLt_bf16_f32)) bitsLt_bf16_f32

/-- One word at every position. -/
def splat (b : BitVec 16) : FVec Ideal S4x8x8192 .bf16 := broadcastInDim S4x8x8192 ![] bcast_S_S4x8x8192 (constant (F := Ideal) S_ .bf16 b)

/-- A vector as one column, and as one row. -/
def col (x : FVec Ideal S4x8x8192 .bf16) : FVec Ideal S4x8x8192x1 .bf16 := broadcastInDim S4x8x8192x1 ![0, 1, 2] bcast_S4x8x8192_S4x8x8192x1_0_1_2 x
def row (x : FVec Ideal S4x8x8192 .bf16) : FVec Ideal S4x8x1x8192 .bf16 := broadcastInDim S4x8x1x8192 ![0, 1, 3] bcast_S4x8x8192_S4x8x1x8192_0_1_3 x

/-- The keys, three ones, the gates' three pieces, and zeros. -/
def keyWide (k : FVec Ideal S4x8192x8x64 .f32) (c : FVec Ideal S4x8x8192 .f32) : FVec Ideal S4x8x8192x128 .bf16 :=
  concatenate S4x8x8192x128 3 [⟨S4x8x8192x64, truncf .bf16 (transpose S4x8x8192x64 [0, 2, 1, 3] k transposes_S4x8192x8x64_S4x8x8192x64_0_2_1_3) bitsLt_bf16_f32⟩,
    ⟨S4x8x8192x1, col (splat 0x3F80#16)⟩, ⟨S4x8x8192x1, col (splat 0x3F80#16)⟩, ⟨S4x8x8192x1, col (splat 0x3F80#16)⟩,
    ⟨S4x8x8192x1, col (gateHi c)⟩, ⟨S4x8x8192x1, col (gateMid c)⟩, ⟨S4x8x8192x1, col (gateLo c)⟩,
    ⟨S4x8x8192x58, broadcastInDim S4x8x8192x58 ![] bcast_S_S4x8x8192x58 (constant (F := Ideal) S_ .bf16 0x0000#16)⟩]
    concatenates_S4x8x8192x64_S4x8x8192x1_S4x8x8192x1_S4x8x8192x1_S4x8x8192x1_S4x8x8192x1_S4x8x8192x1_S4x8x8192x58_S4x8x8192x128_d3

/-- The queries scaled to base two, transposed. -/
def query2 (q : FVec Ideal S4x8192x8x64 .f32) : FVec Ideal S4x8x64x8192 .bf16 :=
  truncf .bf16 (transpose S4x8x64x8192 [0, 2, 3, 1]
    (mulf (mulf q (broadcastInDim S4x8192x8x64 ![] bcast_S_S4x8192x8x64 (constant S_ .f32 0x3E000000#32)))
      (broadcastInDim S4x8192x8x64 ![] bcast_S_S4x8192x8x64 hostLog2e)) transposes_S4x8192x8x64_S4x8x64x8192_0_2_3_1) bitsLt_bf16_f32

/-- The scaled queries, the gates' three pieces, three minus ones, and zeros. -/
def queryWide (q : FVec Ideal S4x8192x8x64 .f32) (c : FVec Ideal S4x8x8192 .f32) : FVec Ideal S4x8x128x8192 .bf16 :=
  concatenate S4x8x128x8192 2 [⟨S4x8x64x8192, query2 q⟩,
    ⟨S4x8x1x8192, row (gateHi c)⟩, ⟨S4x8x1x8192, row (gateMid c)⟩, ⟨S4x8x1x8192, row (gateLo c)⟩,
    ⟨S4x8x1x8192, row (splat 0xBF80#16)⟩, ⟨S4x8x1x8192, row (splat 0xBF80#16)⟩, ⟨S4x8x1x8192, row (splat 0xBF80#16)⟩,
    ⟨S4x8x58x8192, broadcastInDim S4x8x58x8192 ![] bcast_S_S4x8x58x8192 (constant (F := Ideal) S_ .bf16 0x0000#16)⟩]
    concatenates_S4x8x64x8192_S4x8x1x8192_S4x8x1x8192_S4x8x1x8192_S4x8x1x8192_S4x8x1x8192_S4x8x1x8192_S4x8x58x8192_S4x8x128x8192_d2

/-- The values with sixteen rows of ones under them, in blocks of 256 keys. -/
def valueWide (v : FVec Ideal S4x8192x8x64 .f32) : FVec Ideal S4x8x80x8192 .bf16 :=
  concatenate S4x8x80x8192 2 [⟨S4x8x64x8192, truncf .bf16 (transpose S4x8x64x8192 [0, 2, 3, 1] v transposes_S4x8192x8x64_S4x8x64x8192_0_2_3_1) bitsLt_bf16_f32⟩,
    ⟨S4x8x16x8192, broadcastInDim S4x8x16x8192 ![] bcast_S_S4x8x16x8192 (constant (F := Ideal) S_ .bf16 0x3F80#16)⟩]
    concatenates_S4x8x64x8192_S4x8x16x8192_S4x8x80x8192_d2

variable (m : (ℓ : Loc nD τ sig) → Buf (Elt Ideal) ℓ)

set_option maxHeartbeats 4000000 in
theorem V_keys (c : Dev nD) : V m c main_v43 =
    shapeCast S4x8x32x256x128 (keyWide (m ((c : Thread nD τ).loc main_arg1)) (m ((c : Thread nD τ).loc main_arg3))) shapeCasts_S4x8x8192x128_S4x8x32x256x128 := by
  unfold_abbrev_sides
  after_results <;> rfl

set_option maxHeartbeats 4000000 in
theorem V_queries (c : Dev nD) : V m c main_v36 =
    queryWide (m ((c : Thread nD τ).loc main_arg0)) (m ((c : Thread nD τ).loc main_arg3)) := by
  unfold_abbrev_sides
  after_results <;> rfl

set_option maxHeartbeats 4000000 in
theorem V_values (c : Dev nD) : V m c main_v42 =
    transpose S4x8x32x80x256 [0, 1, 3, 2, 4] (shapeCast S4x8x80x32x256 (valueWide (m ((c : Thread nD τ).loc main_arg2))) shapeCasts_S4x8x80x8192_S4x8x80x32x256)
      transposes_S4x8x80x32x256_S4x8x32x80x256_0_1_3_2_4 := by
  unfold_abbrev_sides
  after_results <;> rfl

/-! ## Their entries -/

theorem two_bits : Ideal.ofBits FTy.f32 0x40000000#32 = ((2 : ℝ) : EReal) := by
  simp [Ideal.ofBits, Ideal.ieee, -EReal.coe_mul]
  norm_num

theorem hostLog2e_apply (i : S_.Idx) : hostLog2e i = ((log2e : ℝ) : EReal) := by
  show Ideal.div (Ideal.ofBits .f32 0x3F800000#32) (Ideal.log (Ideal.ofBits .f32 0x40000000#32)) = _
  have hlog : Ideal.log ((2 : ℝ) : EReal) = ((Real.log 2 : ℝ) : EReal) := if_neg (by norm_num)
  have h0 : (Real.log 2) ≠ 0 := (Real.log_pos (by norm_num)).ne'
  rw [two_bits, hlog, Ideal.ofBits_one_f32, Ideal.div, if_neg (by exact_mod_cast h0), ← EReal.coe_inv, one_mul, log2e, one_div]

section
variable (q k v : FVec Ideal S4x8192x8x64 .f32) (c : FVec Ideal S4x8x8192 .f32) (b : Fin 4) (h : Fin 8)
  (Q K : S4x8192x8x64.Idx → ℝ) (C : S4x8x8192.Idx → ℝ) (hq : ∀ i, q i = (Q i : EReal)) (hk : ∀ i, k i = (K i : EReal)) (hc : ∀ i, c i = (C i : EReal))
include hc

theorem gateHi_at (i : S4x8x8192.Idx) : gateHi c i = ((log2e * C i : ℝ) : EReal) := by
  show c i * broadcastInDim S4x8x8192 ![] bcast_S_S4x8x8192 hostLog2e i = _
  rw [hc, mul_comm log2e, EReal.coe_mul]
  exact congrArg _ (hostLog2e_apply _)

theorem gateRest_at (i : S4x8x8192.Idx) : gateRest c i = 0 := by
  show gateHi c i - gateHi c i = 0
  rw [gateHi_at c C hc, ← EReal.coe_sub, sub_self, EReal.coe_zero]

theorem gateMid_at (i : S4x8x8192.Idx) : gateMid c i = 0 := gateRest_at c C hc i

theorem gateLo_at (i : S4x8x8192.Idx) : gateLo c i = 0 := by
  show gateRest c i - gateRest c i = 0
  rw [gateRest_at c C hc, sub_zero]

/-- The upper half of a key's row: three ones, then the gate. -/
theorem keyWide_high (j : Fin 8192) (e : Fin 64) (d : Fin 128) (hd : d.val = 64 + e.val) :
    keyWide k c (ix4 b h j d) = if e.val < 3 then 1 else if e.val = 3 then ((log2e * C (ix3 b h j) : ℝ) : EReal) else 0 := by
  unfold keyWide col splat
  pointwise
  simp only [gateHi_at c C hc, gateMid_at c C hc, gateLo_at c C hc]
  split_ifs <;> first | rfl | omega

theorem queryWide_high (x : Fin 8192) (e : Fin 64) (d : Fin 128) (hd : d.val = 64 + e.val) :
    queryWide q c (ix4 b h d x) = if e.val = 0 then ((log2e * C (ix3 b h x) : ℝ) : EReal) else if e.val < 3 then 0 else if e.val < 6 then ((-1 : ℝ) : EReal) else 0 := by
  unfold queryWide row splat
  pointwise
  simp only [gateHi_at c C hc, gateMid_at c C hc, gateLo_at c C hc, Ideal.ofBits_neg_one_bf16]
  split_ifs <;> first | rfl | omega

omit hc in
theorem keyWide_low (j : Fin 8192) (e : Fin 64) (d : Fin 128) (hd : d.val = e.val) :
    keyWide k c (ix4 b h j d) = k (ix4 b j h e) := by
  unfold keyWide
  pointwise
  have : d.val < 64 := hd ▸ e.isLt
  rw [dif_pos this]
  exact congrArg (fun z => k (ix4 b j h z)) (Fin.ext hd)

omit hc in
include hq in
theorem queryWide_low (x : Fin 8192) (e : Fin 64) (d : Fin 128) (hd : d.val = e.val) :
    queryWide q c (ix4 b h d x) = ((log2e * (Q (ix4 b x h e) * (1 / 8)) : ℝ) : EReal) := by
  unfold queryWide query2
  pointwise
  have : d.val < 64 := hd ▸ e.isLt
  rw [dif_pos this, show (⟨d.val, this⟩ : Fin 64) = e from Fin.ext hd, hq, Cert.FoxRefIdeal.Hand.eighth_bits, hostLog2e_apply, ← EReal.coe_mul, ← EReal.coe_mul,
    mul_comm log2e]

include hq hk in
/-- A wide key against a wide query: the logit, in base two. -/
theorem wide_sum (j x : Fin 8192) :
    ∑ d : Fin 128, keyWide k c (ix4 b h j d) * queryWide q c (ix4 b h d x)
      = ((log2e * Cert.FoxRefIdeal.Hand.realLogit Q K C b h x j : ℝ) : EReal) := by
  rw [Fin.sum_univ_two_halves 64 64 rfl]
  have low : ∀ e : Fin 64, keyWide k c (ix4 b h j ⟨e.val, by omega⟩) * queryWide q c (ix4 b h ⟨e.val, by omega⟩ x)
      = ((log2e * (1 / 8) * (Q (ix4 b x h e) * K (ix4 b j h e)) : ℝ) : EReal) := fun e => by
    rw [keyWide_low k c b h j e _ rfl, queryWide_low q c b h Q hq x e _ rfl, hk, ← EReal.coe_mul]
    congr 1
    ring
  have high : ∀ e : Fin 64, keyWide k c (ix4 b h j ⟨64 + e.val, by omega⟩) * queryWide q c (ix4 b h ⟨64 + e.val, by omega⟩ x)
      = (((if e = 0 then log2e * C (ix3 b h x) else 0) + (if e = 3 then -(log2e * C (ix3 b h j)) else 0) : ℝ) : EReal) := fun e => by
    rw [keyWide_high k c b h C hc j e _ rfl, queryWide_high q c b h C hc x e _ rfl]
    have e0 : e = 0 ↔ e.val = 0 := Fin.ext_iff
    have e3 : e = 3 ↔ e.val = 3 := Fin.ext_iff
    simp only [e0, e3]
    split_ifs <;> first | omega | simp
  simp only [low, high, Cert.FoxRefIdeal.Hand.coe_sum, Finset.sum_add_distrib, Finset.sum_ite_eq', Finset.mem_univ, if_true, ← Finset.mul_sum, ← EReal.coe_add]
  congr 1
  unfold Cert.FoxRefIdeal.Hand.realLogit
  ring
end

section
variable (v : FVec Ideal S4x8192x8x64 .f32) (b : Fin 4) (h : Fin 8) (j : Fin 8192)

theorem valueWide_low (e : Fin 64) (d : Fin 80) (hd : d.val = e.val) : valueWide v (ix4 b h d j) = v (ix4 b j h e) := by
  unfold valueWide
  pointwise
  have : d.val < 64 := hd ▸ e.isLt
  rw [dif_pos this]
  exact congrArg (fun z => v (ix4 b j h z)) (Fin.ext hd)

theorem valueWide_one : valueWide v (ix4 b h 64 j) = 1 := by
  unfold valueWide
  pointwise
end

end Cert.FoxIdeal.Hand

end
-- ==== Proof.FoxStep.lean ====
module

public import proofs.«01_k».proof.Proof.Gen.FoxIdeal.Skeleton
public import proofs.«01_k».proof.Proof.FoxMath
public import Idealize.ShloMosaic.Lib.Pointwise

@[expose] public section

set_option maxRecDepth 16384

noncomputable section

namespace Cert.FoxIdeal.Hand

open Cert.FoxIdeal Cert.FoxIdeal.Gen Cert.FoxMath Idealize.ShloMosaic

theorem negInf_bits : Ideal.ofBits FTy.f32 0xFF800000#32 = ⊥ := by
  simp [Ideal.ofBits, Ideal.ieee]

theorem newMax_apply (m : FVec Ideal S1x512 .f32) (s : Vec Ideal S1x256x512 .f32) (x : Fin 512) :
    k0_pay7 m s (ix2 0 x) = max (m (ix2 0 x)) (Finset.univ.fold max (⊥ : EReal) fun y : Fin 256 => s (ix3 0 y x)) := by
  unfold k0_pay7 k0_pay6
  pointwise
  rw [negInf_bits]

theorem newAcc_apply (m : FVec Ideal S1x512 .f32) (a : FVec Ideal S80x512 .f32) (s : Vec Ideal S1x256x512 .f32)
    (vb : Vec Ideal S1x1x1x80x256 .bf16) (r : Fin 80) (x : Fin 512) :
    k0_pay21 a (k0_pay8 m s) (k0_pay9 m s) vb (ix2 r x)
      = Ideal.exp2 (m (ix2 0 x) - k0_pay7 m s (ix2 0 x)) * a (ix2 r x)
        + ∑ k : Fin 256, vb (ix5 0 0 0 r k) * Ideal.exp2 (s (ix3 0 k x) - k0_pay7 m s (ix2 0 x)) := by
  unfold k0_pay21 k0_pay8 k0_pay9 k0_pay6
  generalize k0_pay7 m s = m'
  pointwise
  rfl

theorem score_apply (q : FVec Ideal S128x512 .bf16) (kb : Vec Ideal S1x1x1x256x128 .bf16) (y : Fin 256) (x : Fin 512) :
    k0_pay2 q kb (ix3 0 y x) = ∑ d : Fin 128, kb (ix5 0 0 0 y d) * q (ix2 d x) := by
  unfold k0_pay2
  pointwise

theorem head_step {m : FVec Ideal S1x512 .f32} {a : FVec Ideal S80x512 .f32} {z : ℕ → EReal} {V : Fin 80 → ℕ → EReal}
    {n : ℕ} {x : Fin 512} (h : St (m (ix2 0 x)) (fun r => a (ix2 r x)) z V n) (hz : ∀ j, z j ≠ ⊤) (h0 : z 0 ≠ ⊥)
    (s : Vec Ideal S1x256x512 .f32) (hs : ∀ y : Fin 256, s (ix3 0 y x) = z (n + y))
    (vb : Vec Ideal S1x1x1x80x256 .bf16) (hv : ∀ (r : Fin 80) (y : Fin 256), vb (ix5 0 0 0 r y) = V r (n + y)) :
    St (k0_pay7 m s (ix2 0 x)) (fun r => k0_pay21 a (k0_pay8 m s) (k0_pay9 m s) vb (ix2 r x)) z V (n + 256) :=
  h.step hz h0 (fun y => s (ix3 0 y x)) (fun r y => vb (ix5 0 0 0 r y)) hs hv _ (newMax_apply m s x) _
    (newAcc_apply m a s vb · x)

end Cert.FoxIdeal.Hand
-- ==== Proof.FoxOff.lean ====
module

public import proofs.«01_k».proof.Proof.Gen.FoxIdeal.Skeleton

@[expose] public section

set_option maxRecDepth 16384

noncomputable section

namespace Cert.FoxIdeal.Hand

open Cert.FoxIdeal Cert.FoxIdeal.Gen Idealize.ShloMosaic

/-- How many times each counted loop runs, from the query tile. -/
theorem trips_closed : ∀ i : grid0.Coords, (k0_t1_loop i).trips = (i 2).val / 2 ∧ (k0_t2_loop i).trips = 0
    ∧ (k0_t3_loop i).trips = (i 2).val % 2 ∧ (k0_t4_loop i).trips = 0 := by decide +kernel

theorem offK1 : ∀ (i : grid0.Coords) (k : Fin (k0_t1_loop i).trips),
    (k0_off1 i k 1#32 = ![0, 0, 4 * k.val + 1, 0, 0] ∧ k0_off2 i k 1#32 = ![0, 1, 4 * k.val + 1, 0, 0]
      ∧ k0_off3 i k 1#32 = ![0, 2, 4 * k.val + 1, 0, 0] ∧ k0_off4 i k 1#32 = ![0, 3, 4 * k.val + 1, 0, 0])
    ∧ (k0_off1 i k 2#32 = ![0, 0, 4 * k.val + 2, 0, 0] ∧ k0_off2 i k 2#32 = ![0, 1, 4 * k.val + 2, 0, 0]
      ∧ k0_off3 i k 2#32 = ![0, 2, 4 * k.val + 2, 0, 0] ∧ k0_off4 i k 2#32 = ![0, 3, 4 * k.val + 2, 0, 0])
    ∧ (k0_off13 i k 1#32 = ![0, 0, 4 * k.val + 3, 0, 0] ∧ k0_off14 i k 1#32 = ![0, 1, 4 * k.val + 3, 0, 0]
      ∧ k0_off15 i k 1#32 = ![0, 2, 4 * k.val + 3, 0, 0] ∧ k0_off16 i k 1#32 = ![0, 3, 4 * k.val + 3, 0, 0])
    ∧ (k0_off13 i k 2#32 = ![0, 0, 4 * k.val + 4, 0, 0] ∧ k0_off14 i k 2#32 = ![0, 1, 4 * k.val + 4, 0, 0]
      ∧ k0_off15 i k 2#32 = ![0, 2, 4 * k.val + 4, 0, 0] ∧ k0_off16 i k 2#32 = ![0, 3, 4 * k.val + 4, 0, 0]) := by decide +kernel

theorem offV1 : ∀ (i : grid0.Coords) (k : Fin (k0_t1_loop i).trips),
    (k0_off5 i k = ![0, 0, 4 * k.val, 0, 0] ∧ k0_off6 i k = ![0, 1, 4 * k.val, 0, 0]
      ∧ k0_off7 i k = ![0, 2, 4 * k.val, 0, 0] ∧ k0_off8 i k = ![0, 3, 4 * k.val, 0, 0])
    ∧ (k0_off9 i k = ![0, 0, 4 * k.val + 1, 0, 0] ∧ k0_off10 i k = ![0, 1, 4 * k.val + 1, 0, 0]
      ∧ k0_off11 i k = ![0, 2, 4 * k.val + 1, 0, 0] ∧ k0_off12 i k = ![0, 3, 4 * k.val + 1, 0, 0])
    ∧ (k0_off17 i k = ![0, 0, 4 * k.val + 2, 0, 0] ∧ k0_off18 i k = ![0, 1, 4 * k.val + 2, 0, 0]
      ∧ k0_off19 i k = ![0, 2, 4 * k.val + 2, 0, 0] ∧ k0_off20 i k = ![0, 3, 4 * k.val + 2, 0, 0])
    ∧ (k0_off21 i k = ![0, 0, 4 * k.val + 3, 0, 0] ∧ k0_off22 i k = ![0, 1, 4 * k.val + 3, 0, 0]
      ∧ k0_off23 i k = ![0, 2, 4 * k.val + 3, 0, 0] ∧ k0_off24 i k = ![0, 3, 4 * k.val + 3, 0, 0]) := by decide +kernel

theorem offK3 : ∀ (i : grid0.Coords) (k : Fin (k0_t3_loop i).trips),
    (k0_off49 i k 1#32 = ![0, 0, 4 * ((i 2).val / 2) + 2 * k.val + 1, 0, 0] ∧ k0_off50 i k 1#32 = ![0, 1, 4 * ((i 2).val / 2) + 2 * k.val + 1, 0, 0]
      ∧ k0_off51 i k 1#32 = ![0, 2, 4 * ((i 2).val / 2) + 2 * k.val + 1, 0, 0] ∧ k0_off52 i k 1#32 = ![0, 3, 4 * ((i 2).val / 2) + 2 * k.val + 1, 0, 0])
    ∧ (k0_off49 i k 2#32 = ![0, 0, 4 * ((i 2).val / 2) + 2 * k.val + 2, 0, 0] ∧ k0_off50 i k 2#32 = ![0, 1, 4 * ((i 2).val / 2) + 2 * k.val + 2, 0, 0]
      ∧ k0_off51 i k 2#32 = ![0, 2, 4 * ((i 2).val / 2) + 2 * k.val + 2, 0, 0] ∧ k0_off52 i k 2#32 = ![0, 3, 4 * ((i 2).val / 2) + 2 * k.val + 2, 0, 0]) := by
  decide +kernel

theorem offV3 : ∀ (i : grid0.Coords) (k : Fin (k0_t3_loop i).trips),
    (k0_off53 i k = ![0, 0, 4 * ((i 2).val / 2) + 2 * k.val, 0, 0] ∧ k0_off54 i k = ![0, 1, 4 * ((i 2).val / 2) + 2 * k.val, 0, 0]
      ∧ k0_off55 i k = ![0, 2, 4 * ((i 2).val / 2) + 2 * k.val, 0, 0] ∧ k0_off56 i k = ![0, 3, 4 * ((i 2).val / 2) + 2 * k.val, 0, 0])
    ∧ (k0_off57 i k = ![0, 0, 4 * ((i 2).val / 2) + 2 * k.val + 1, 0, 0] ∧ k0_off58 i k = ![0, 1, 4 * ((i 2).val / 2) + 2 * k.val + 1, 0, 0]
      ∧ k0_off59 i k = ![0, 2, 4 * ((i 2).val / 2) + 2 * k.val + 1, 0, 0] ∧ k0_off60 i k = ![0, 3, 4 * ((i 2).val / 2) + 2 * k.val + 1, 0, 0]) := by
  decide +kernel

theorem offK5 : ∀ i : grid0.Coords,
    k0_off73 i = ![0, 0, 2 * (i 2).val + 1, 0, 0] ∧ k0_off74 i = ![0, 1, 2 * (i 2).val + 1, 0, 0]
      ∧ k0_off75 i = ![0, 2, 2 * (i 2).val + 1, 0, 0] ∧ k0_off76 i = ![0, 3, 2 * (i 2).val + 1, 0, 0] := by decide +kernel

theorem offV5 : ∀ i : grid0.Coords,
    (k0_off77 i = ![0, 0, 2 * (i 2).val, 0, 0] ∧ k0_off78 i = ![0, 1, 2 * (i 2).val, 0, 0]
      ∧ k0_off79 i = ![0, 2, 2 * (i 2).val, 0, 0] ∧ k0_off80 i = ![0, 3, 2 * (i 2).val, 0, 0])
    ∧ (k0_off81 i = ![0, 0, 2 * (i 2).val + 1, 0, 0] ∧ k0_off82 i = ![0, 1, 2 * (i 2).val + 1, 0, 0]
      ∧ k0_off83 i = ![0, 2, 2 * (i 2).val + 1, 0, 0] ∧ k0_off84 i = ![0, 3, 2 * (i 2).val + 1, 0, 0]) := by decide +kernel

end Cert.FoxIdeal.Hand
-- ==== Proof.FoxTrip.lean ====
module

public import proofs.«01_k».proof.Proof.Gen.FoxIdeal.Loops
public import Idealize.ShloMosaic.Lib.Pipeline.ReadBack
public import proofs.«01_k».proof.Proof.FoxStep
public import proofs.«01_k».proof.Proof.FoxOff

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem

/-- The key block's number in the array, and the place in the block, of key `j`. -/
def keyIx (h : Fin 4) (j : ℕ) (d : Fin 128) : S1x4x32x256x128.Idx :=
  ix5 0 h (Fin.ofNat 32 (j / 256)) (Fin.ofNat 256 j) d
def valIx (h : Fin 4) (r : Fin 80) (j : ℕ) : S1x4x32x80x256.Idx :=
  ix5 0 h (Fin.ofNat 32 (j / 256)) r (Fin.ofNat 256 j)

/-- Key `j`'s score against a query column. -/
def zOf (K : S1x4x32x256x128.Idx → EReal) (q : FVec Ideal S128x512 .bf16) (h : Fin 4) (x : Fin 512) (j : ℕ) : EReal :=
  ∑ d : Fin 128, K (keyIx h j d) * q (ix2 d x)

theorem keyIx_block (h : Fin 4) (b : ℕ) (hb : b < 32) (y : Fin 256) (d : Fin 128) :
    keyIx h (256 * b + y) d = ix5 0 h ⟨b, hb⟩ y d := by
  unfold keyIx
  congr 1 <;> ext <;> simp [Fin.ofNat] <;> omega

theorem valIx_block (h : Fin 4) (b : ℕ) (hb : b < 32) (r : Fin 80) (y : Fin 256) :
    valIx h r (256 * b + y) = ix5 0 h ⟨b, hb⟩ r y := by
  unfold valIx
  congr 1 <;> ext <;> simp [Fin.ofNat] <;> omega

/-- A block of keys as loaded. -/
theorem key_load {v : View sig .tc .vmem S1x4x32x256x128 .bf16} (X : v.ty.Contents (Elt Ideal)) {off : Fin 5 → ℕ} (h : Fin 4) (b : ℕ) (hb : b < 32)
    (ho : off = ![0, h.val, b, 0, 0]) (hin : ∀ a, off a + S1x1x1x256x128.size a ≤ S1x4x32x256x128.size a) (y : Fin 256) (d : Fin 128) :
    v.readAt (Elt Ideal) (Rect.unit (s := S1x4x32x256x128) off S1x1x1x256x128.size hin).toLoadRect X (ix5 0 0 0 y d) = v.read (Elt Ideal) X (keyIx h (256 * b + y) d) := by
  subst ho
  rw [keyIx_block h b hb, View.readAt_apply]
  congr 1
  funext a
  fin_cases a <;> first | rfl | exact Fin.ext ((Nat.zero_add _).trans (Nat.mul_one _)) | exact Fin.ext ((Nat.zero_add _).trans (Nat.one_mul _))

theorem val_load {v : View sig .tc .vmem S1x4x32x80x256 .bf16} (X : v.ty.Contents (Elt Ideal)) {off : Fin 5 → ℕ} (h : Fin 4) (b : ℕ) (hb : b < 32)
    (ho : off = ![0, h.val, b, 0, 0]) (hin : ∀ a, off a + S1x1x1x80x256.size a ≤ S1x4x32x80x256.size a) (r : Fin 80) (y : Fin 256) :
    v.readAt (Elt Ideal) (Rect.unit (s := S1x4x32x80x256) off S1x1x1x80x256.size hin).toLoadRect X (ix5 0 0 0 r y) = v.read (Elt Ideal) X (valIx h r (256 * b + y)) := by
  subst ho
  rw [valIx_block h b hb, View.readAt_apply]
  congr 1
  funext a
  fin_cases a <;> first | rfl | exact Fin.ext ((Nat.zero_add _).trans (Nat.mul_one _)) | exact Fin.ext ((Nat.zero_add _).trans (Nat.one_mul _))

/-- A block's scores, from the block as loaded. -/
theorem score_load {v : View sig .tc .vmem S1x4x32x256x128 .bf16} (X : v.ty.Contents (Elt Ideal)) {off : Fin 5 → ℕ} (h : Fin 4) (b : ℕ) (hb : b < 32)
    (ho : off = ![0, h.val, b, 0, 0]) (hin : ∀ a, off a + S1x1x1x256x128.size a ≤ S1x4x32x256x128.size a) (q : FVec Ideal S128x512 .bf16) (y : Fin 256) (x : Fin 512) :
    k0_pay2 q (v.readAt (Elt Ideal) (Rect.unit (s := S1x4x32x256x128) off S1x1x1x256x128.size hin).toLoadRect X) (ix3 0 y x)
      = zOf (v.read (Elt Ideal) X) q h x (256 * b + y) := by
  rw [score_apply]
  exact Finset.sum_congr rfl fun d _ => by rw [key_load X h b hb ho]

/-- What one head carries before block `b` of the keys. -/
def Carry (K : S1x4x32x256x128.Idx → EReal) (W : S1x4x32x80x256.Idx → EReal) (q : FVec Ideal S128x512 .bf16) (h : Fin 4) (b : ℕ)
    (m : FVec Ideal S1x512 .f32) (a : FVec Ideal S80x512 .f32) : Prop :=
  ∀ x : Fin 512, St (m (ix2 0 x)) (fun r => a (ix2 r x)) (zOf K q h x) (fun r j => W (valIx h r j)) (256 * b)

/-- The block `s` of scores is block `b`'s. -/
def Score (K : S1x4x32x256x128.Idx → EReal) (q : FVec Ideal S128x512 .bf16) (h : Fin 4) (b : ℕ) (s : Vec Ideal S1x256x512 .f32) : Prop :=
  ∀ (y : Fin 256) (x : Fin 512), s (ix3 0 y x) = zOf K q h x (256 * b + y)

/-- Every score is finite. -/
def Fin4 (K : S1x4x32x256x128.Idx → EReal) (q : FVec Ideal S128x512 .bf16) (h : Fin 4) : Prop :=
  ∀ x j, zOf K q h x j ≠ ⊤ ∧ zOf K q h x j ≠ ⊥

theorem Carry.step {K W q h b m a} (H : Carry K W q h b m a) (hz : Fin4 K q h) {s} (hs : Score K q h b s)
    {v : View sig .tc .vmem S1x4x32x80x256 .bf16} (X : v.ty.Contents (Elt Ideal)) (hW : v.read (Elt Ideal) X = W) {off : Fin 5 → ℕ} (hb : b < 32)
    (ho : off = ![0, h.val, b, 0, 0]) (hin : ∀ a, off a + S1x1x1x80x256.size a ≤ S1x4x32x80x256.size a) :
    Carry K W q h (b + 1) (k0_pay7 m s)
      (k0_pay21 a (k0_pay8 m s) (k0_pay9 m s) (v.readAt (Elt Ideal) (Rect.unit (s := S1x4x32x80x256) off S1x1x1x80x256.size hin).toLoadRect X)) := fun x =>
  head_step (H x) (fun j => (hz x j).1) (hz x 0).2 s (fun y => hs y x) _ (fun r y => by rw [val_load X h b hb ho, hW])

/-- A head's scores as the scratch holds them. -/
def scr (v : View sig .tc .vmem S4x256x512 .f32) (f : v.ty.Contents (Elt Ideal)) (h : Fin 4) : Vec Ideal S1x256x512 .f32 :=
  v.readAt (Elt Ideal) (Rect.unit (s := S4x256x512) ![h.val, 0, 0] S1x256x512.size (by revert h; decide)).toLoadRect f

/-- Four blocks written, one per head, are what the heads read. -/
theorem scr_writes (v : View sig .tc .vmem S4x256x512 .f32) (f : v.ty.Contents (Elt Ideal)) (w0 w1 w2 w3 : Vec Ideal S1x256x512 .f32)
    (L : List (View.Piece (Elt Ideal) S4x256x512 .f32)) (i3 i2 i1 i0) (h : Fin 4) :
    scr v (v.writes (Elt Ideal) f (⟨Rect.unit (s := S4x256x512) ![3, 0, 0] S1x256x512.size i3, w3⟩
      :: ⟨Rect.unit (s := S4x256x512) ![2, 0, 0] S1x256x512.size i2, w2⟩ :: ⟨Rect.unit (s := S4x256x512) ![1, 0, 0] S1x256x512.size i1, w1⟩
      :: ⟨Rect.unit (s := S4x256x512) ![0, 0, 0] S1x256x512.size i0, w0⟩ :: L)) h = ![w0, w1, w2, w3] h := by
  unfold scr
  match h with
  | 0 =>
    rw [View.readAt_writes_of_cover _ _ _ _ fun j => ⟨_, .tail _ (.tail _ (.tail _ (.head _))), LoadRect.idx_mem_of_within rfl j⟩,
      View.readCov_skip _ _ _ _ _ rfl, View.readCov_skip _ _ _ _ _ rfl, View.readCov_skip _ _ _ _ _ rfl]
    exact View.readCov_cons_toLoadRect ..
  | 1 =>
    rw [View.readAt_writes_of_cover _ _ _ _ fun j => ⟨_, .tail _ (.tail _ (.head _)), LoadRect.idx_mem_of_within rfl j⟩,
      View.readCov_skip _ _ _ _ _ rfl, View.readCov_skip _ _ _ _ _ rfl]
    exact View.readCov_cons_toLoadRect ..
  | 2 =>
    rw [View.readAt_writes_of_cover _ _ _ _ fun j => ⟨_, .tail _ (.head _), LoadRect.idx_mem_of_within rfl j⟩,
      View.readCov_skip _ _ _ _ _ rfl]
    exact View.readCov_cons_toLoadRect ..
  | 3 =>
    rw [View.readAt_writes_of_cover _ _ _ _ fun j => ⟨_, .head _, LoadRect.idx_mem_of_within rfl j⟩]
    exact View.readCov_cons_toLoadRect ..

/-- What the four heads carry before block `b`. -/
structure Heads (K : S1x4x32x256x128.Idx → EReal) (W : S1x4x32x80x256.Idx → EReal) (q0 q1 q2 q3 : FVec Ideal S128x512 .bf16) (b : ℕ)
    (acc : FVec Ideal S1x512 .f32 × FVec Ideal S80x512 .f32 × FVec Ideal S1x512 .f32 × FVec Ideal S80x512 .f32 × FVec Ideal S1x512 .f32
      × FVec Ideal S80x512 .f32 × FVec Ideal S1x512 .f32 × FVec Ideal S80x512 .f32)
    (v : View sig .tc .vmem S4x256x512 .f32) (f : v.ty.Contents (Elt Ideal)) : Prop where
  c0 : Carry K W q0 0 b acc.1 acc.2.1
  c1 : Carry K W q1 1 b acc.2.2.1 acc.2.2.2.1
  c2 : Carry K W q2 2 b acc.2.2.2.2.1 acc.2.2.2.2.2.1
  c3 : Carry K W q3 3 b acc.2.2.2.2.2.2.1 acc.2.2.2.2.2.2.2
  s0 : Score K q0 0 b (scr v f 0)
  s1 : Score K q1 1 b (scr v f 1)
  s2 : Score K q2 2 b (scr v f 2)
  s3 : Score K q3 3 b (scr v f 3)

/-- Every head's scores are finite. -/
structure AllFin (K : S1x4x32x256x128.Idx → EReal) (q0 q1 q2 q3 : FVec Ideal S128x512 .bf16) : Prop where
  f0 : Fin4 K q0 0
  f1 : Fin4 K q1 1
  f2 : Fin4 K q2 2
  f3 : Fin4 K q3 3

set_option maxHeartbeats 4000000 in
/-- One trip of loop 3: 2 blocks of keys. -/
theorem trip3 (𝒱 : Variants) (c : Dev nD) (bd : Option 𝒱.V) (i : grid0.Coords) (arg3 : Memref sig .tc .vmem S1x4x32x256x128 .bf16) (harg3 : arg3.IsWhole) (arg4 : Memref sig .tc .vmem S1x4x128x512 .bf16) (harg4 : arg4.IsWhole) (arg5 : Memref sig .tc .vmem S1x4x32x80x256 .bf16) (harg5 : arg5.IsWhole) (arg6 : Memref sig .tc .vmem S1x256x512 .f32) (harg6 : arg6.IsWhole) (arg7 : Memref sig .tc .vmem S4x256x512 .f32) (harg7 : arg7.IsWhole) (arg8 : Memref sig .tc .vmem S4x256x512 .f32) (harg8 : arg8.IsWhole)
  (arg2 : BitVec 32) (v1 v3 v5 v7 : FVec Ideal S128x512 .bf16) (v8 : FVec Ideal S1x512 .f32) (v9 : FVec Ideal S80x512 .f32) (v10 : FVec Ideal S1x512 .f32) (v11 : FVec Ideal S80x512 .f32) (v12 : FVec Ideal S1x512 .f32) (v13 : FVec Ideal S80x512 .f32) (v14 : FVec Ideal S1x512 .f32) (v15 : FVec Ideal S80x512 .f32) (c2_i32 v40 v45 v47 c0_i32_57 v81 : BitVec 32) (X3 : BufTy.Contents (Elt Ideal) arg3.view.ty) (X5 : BufTy.Contents (Elt Ideal) arg5.view.ty) (k : Fin (k0_t3_loop i).trips) (acc : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32) (f7 : BufTy.Contents (Elt Ideal) arg7.view.ty) (f8 : BufTy.Contents (Elt Ideal) arg8.view.ty)
    {K : S1x4x32x256x128.Idx → EReal} {W : S1x4x32x80x256.Idx → EReal} (hK : arg3.view.read (Elt Ideal) X3 = K) (hW : arg5.view.read (Elt Ideal) X5 = W)
    (hb : 4 * ((i 2).val / 2) + 2 * k.val + 2 < 32) (hF : AllFin K v1 v3 v5 v7)
    (H : Heads K W v1 v3 v5 v7 (4 * ((i 2).val / 2) + 2 * k.val) acc arg7.view f7) :
    Heads K W v1 v3 v5 v7 (4 * ((i 2).val / 2) + 2 * k.val + 2) (tripR_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 k acc f7 f8) arg7.view
      (arg7.view.writes (Elt Ideal) f7 (tripL_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 k acc f7 f8).1) := by
  subst hK
  have oK := offK3 i k
  have oV := offV3 i k
  have s01 : Score (arg3.view.read (Elt Ideal) X3) v1 0 (4 * ((i 2).val / 2) + 2 * k.val + 1)
      (k0_pay2 v1 (arg3.view.readAt (Elt Ideal) (Rect.unit (s := S1x4x32x256x128) (k0_off49 i k 1#32) S1x1x1x256x128.size (by rw [oK.1.1]; intro a; fin_cases a <;> simp <;> omega)).toLoadRect X3)) :=
    fun y x => score_load X3 0 (4 * ((i 2).val / 2) + 2 * k.val + 1) (by omega) oK.1.1 _ v1 y x
  have s02 : Score (arg3.view.read (Elt Ideal) X3) v1 0 (4 * ((i 2).val / 2) + 2 * k.val + 2)
      (k0_pay2 v1 (arg3.view.readAt (Elt Ideal) (Rect.unit (s := S1x4x32x256x128) (k0_off49 i k 2#32) S1x1x1x256x128.size (by rw [oK.2.1]; intro a; fin_cases a <;> simp <;> omega)).toLoadRect X3)) :=
    fun y x => score_load X3 0 (4 * ((i 2).val / 2) + 2 * k.val + 2) (by omega) oK.2.1 _ v1 y x
  have s11 : Score (arg3.view.read (Elt Ideal) X3) v3 1 (4 * ((i 2).val / 2) + 2 * k.val + 1)
      (k0_pay2 v3 (arg3.view.readAt (Elt Ideal) (Rect.unit (s := S1x4x32x256x128) (k0_off50 i k 1#32) S1x1x1x256x128.size (by rw [oK.1.2.1]; intro a; fin_cases a <;> simp <;> omega)).toLoadRect X3)) :=
    fun y x => score_load X3 1 (4 * ((i 2).val / 2) + 2 * k.val + 1) (by omega) oK.1.2.1 _ v3 y x
  have s12 : Score (arg3.view.read (Elt Ideal) X3) v3 1 (4 * ((i 2).val / 2) + 2 * k.val + 2)
      (k0_pay2 v3 (arg3.view.readAt (Elt Ideal) (Rect.unit (s := S1x4x32x256x128) (k0_off50 i k 2#32) S1x1x1x256x128.size (by rw [oK.2.2.1]; intro a; fin_cases a <;> simp <;> omega)).toLoadRect X3)) :=
    fun y x => score_load X3 1 (4 * ((i 2).val / 2) + 2 * k.val + 2) (by omega) oK.2.2.1 _ v3 y x
  have s21 : Score (arg3.view.read (Elt Ideal) X3) v5 2 (4 * ((i 2).val / 2) + 2 * k.val + 1)
      (k0_pay2 v5 (arg3.view.readAt (Elt Ideal) (Rect.unit (s := S1x4x32x256x128) (k0_off51 i k 1#32) S1x1x1x256x128.size (by rw [oK.1.2.2.1]; intro a; fin_cases a <;> simp <;> omega)).toLoadRect X3)) :=
    fun y x => score_load X3 2 (4 * ((i 2).val / 2) + 2 * k.val + 1) (by omega) oK.1.2.2.1 _ v5 y x
  have s22 : Score (arg3.view.read (Elt Ideal) X3) v5 2 (4 * ((i 2).val / 2) + 2 * k.val + 2)
      (k0_pay2 v5 (arg3.view.readAt (Elt Ideal) (Rect.unit (s := S1x4x32x256x128) (k0_off51 i k 2#32) S1x1x1x256x128.size (by rw [oK.2.2.2.1]; intro a; fin_cases a <;> simp <;> omega)).toLoadRect X3)) :=
    fun y x => score_load X3 2 (4 * ((i 2).val / 2) + 2 * k.val + 2) (by omega) oK.2.2.2.1 _ v5 y x
  have s31 : Score (arg3.view.read (Elt Ideal) X3) v7 3 (4 * ((i 2).val / 2) + 2 * k.val + 1)
      (k0_pay2 v7 (arg3.view.readAt (Elt Ideal) (Rect.unit (s := S1x4x32x256x128) (k0_off52 i k 1#32) S1x1x1x256x128.size (by rw [oK.1.2.2.2]; intro a; fin_cases a <;> simp <;> omega)).toLoadRect X3)) :=
    fun y x => score_load X3 3 (4 * ((i 2).val / 2) + 2 * k.val + 1) (by omega) oK.1.2.2.2 _ v7 y x
  have s32 : Score (arg3.view.read (Elt Ideal) X3) v7 3 (4 * ((i 2).val / 2) + 2 * k.val + 2)
      (k0_pay2 v7 (arg3.view.readAt (Elt Ideal) (Rect.unit (s := S1x4x32x256x128) (k0_off52 i k 2#32) S1x1x1x256x128.size (by rw [oK.2.2.2.2]; intro a; fin_cases a <;> simp <;> omega)).toLoadRect X3)) :=
    fun y x => score_load X3 3 (4 * ((i 2).val / 2) + 2 * k.val + 2) (by omega) oK.2.2.2.2 _ v7 y x
  refine ⟨?_, ?_, ?_, ?_, ?_, ?_, ?_, ?_⟩
  · unfold tripR_k0_t3 trip_k0_t3
    dsimp only
    sl_unfold_words
    simp (disch := decide) only [↓ View.readCov_skip, ↓ View.readCov_cons_toLoadRect]
    exact ((((H.c0).step hF.f0 H.s0 X5 hW (by omega) oV.1.1 (by rw [oV.1.1]; intro a; fin_cases a <;> simp <;> omega))).step hF.f0 s01 X5 hW (by omega) oV.2.1 (by rw [oV.2.1]; intro a; fin_cases a <;> simp <;> omega))
  · unfold tripR_k0_t3 trip_k0_t3
    dsimp only
    sl_unfold_words
    simp (disch := decide) only [↓ View.readCov_skip, ↓ View.readCov_cons_toLoadRect]
    exact ((((H.c1).step hF.f1 H.s1 X5 hW (by omega) oV.1.2.1 (by rw [oV.1.2.1]; intro a; fin_cases a <;> simp <;> omega))).step hF.f1 s11 X5 hW (by omega) oV.2.2.1 (by rw [oV.2.2.1]; intro a; fin_cases a <;> simp <;> omega))
  · unfold tripR_k0_t3 trip_k0_t3
    dsimp only
    sl_unfold_words
    simp (disch := decide) only [↓ View.readCov_skip, ↓ View.readCov_cons_toLoadRect]
    exact ((((H.c2).step hF.f2 H.s2 X5 hW (by omega) oV.1.2.2.1 (by rw [oV.1.2.2.1]; intro a; fin_cases a <;> simp <;> omega))).step hF.f2 s21 X5 hW (by omega) oV.2.2.2.1 (by rw [oV.2.2.2.1]; intro a; fin_cases a <;> simp <;> omega))
  · unfold tripR_k0_t3 trip_k0_t3
    dsimp only
    sl_unfold_words
    simp (disch := decide) only [↓ View.readCov_skip, ↓ View.readCov_cons_toLoadRect]
    exact ((((H.c3).step hF.f3 H.s3 X5 hW (by omega) oV.1.2.2.2 (by rw [oV.1.2.2.2]; intro a; fin_cases a <;> simp <;> omega))).step hF.f3 s31 X5 hW (by omega) oV.2.2.2.2 (by rw [oV.2.2.2.2]; intro a; fin_cases a <;> simp <;> omega))
  · unfold tripL_k0_t3 trip_k0_t3
    dsimp only
    sl_unfold_words
    rw [scr_writes]
    exact s02
  · unfold tripL_k0_t3 trip_k0_t3
    dsimp only
    sl_unfold_words
    rw [scr_writes]
    exact s12
  · unfold tripL_k0_t3 trip_k0_t3
    dsimp only
    sl_unfold_words
    rw [scr_writes]
    exact s22
  · unfold tripL_k0_t3 trip_k0_t3
    dsimp only
    sl_unfold_words
    rw [scr_writes]
    exact s32

set_option maxHeartbeats 4000000 in
/-- One trip of loop 1: 4 blocks of keys. -/
theorem trip1 (𝒱 : Variants) (c : Dev nD) (bd : Option 𝒱.V) (i : grid0.Coords) (arg3 : Memref sig .tc .vmem S1x4x32x256x128 .bf16) (harg3 : arg3.IsWhole) (arg4 : Memref sig .tc .vmem S1x4x128x512 .bf16) (harg4 : arg4.IsWhole) (arg5 : Memref sig .tc .vmem S1x4x32x80x256 .bf16) (harg5 : arg5.IsWhole) (arg6 : Memref sig .tc .vmem S1x256x512 .f32) (harg6 : arg6.IsWhole) (arg7 : Memref sig .tc .vmem S4x256x512 .f32) (harg7 : arg7.IsWhole) (arg8 : Memref sig .tc .vmem S4x256x512 .f32) (harg8 : arg8.IsWhole)
  (arg2 : BitVec 32) (v1 v3 v5 v7 : FVec Ideal S128x512 .bf16) (v8 : FVec Ideal S1x512 .f32) (v9 : FVec Ideal S80x512 .f32) (v10 : FVec Ideal S1x512 .f32) (v11 : FVec Ideal S80x512 .f32) (v12 : FVec Ideal S1x512 .f32) (v13 : FVec Ideal S80x512 .f32) (v14 : FVec Ideal S1x512 .f32) (v15 : FVec Ideal S80x512 .f32) (c2_i32 v40 v45 v47 c0_i32_57 : BitVec 32) (X3 : BufTy.Contents (Elt Ideal) arg3.view.ty) (X5 : BufTy.Contents (Elt Ideal) arg5.view.ty) (k : Fin (k0_t1_loop i).trips) (acc : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32) (f7 : BufTy.Contents (Elt Ideal) arg7.view.ty) (f8 : BufTy.Contents (Elt Ideal) arg8.view.ty)
    {K : S1x4x32x256x128.Idx → EReal} {W : S1x4x32x80x256.Idx → EReal} (hK : arg3.view.read (Elt Ideal) X3 = K) (hW : arg5.view.read (Elt Ideal) X5 = W)
    (hb : 4 * k.val + 4 < 32) (hF : AllFin K v1 v3 v5 v7)
    (H : Heads K W v1 v3 v5 v7 (4 * k.val) acc arg7.view f7) :
    Heads K W v1 v3 v5 v7 (4 * k.val + 4) (tripR_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 k acc f7 f8) arg7.view
      (arg7.view.writes (Elt Ideal) f7 (tripL_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 k acc f7 f8).1) := by
  subst hK
  have oK := offK1 i k
  have oV := offV1 i k
  have s01 : Score (arg3.view.read (Elt Ideal) X3) v1 0 (4 * k.val + 1)
      (k0_pay2 v1 (arg3.view.readAt (Elt Ideal) (Rect.unit (s := S1x4x32x256x128) (k0_off1 i k 1#32) S1x1x1x256x128.size (by rw [oK.1.1]; intro a; fin_cases a <;> simp <;> omega)).toLoadRect X3)) :=
    fun y x => score_load X3 0 (4 * k.val + 1) (by omega) oK.1.1 _ v1 y x
  have s02 : Score (arg3.view.read (Elt Ideal) X3) v1 0 (4 * k.val + 2)
      (k0_pay2 v1 (arg3.view.readAt (Elt Ideal) (Rect.unit (s := S1x4x32x256x128) (k0_off1 i k 2#32) S1x1x1x256x128.size (by rw [oK.2.1.1]; intro a; fin_cases a <;> simp <;> omega)).toLoadRect X3)) :=
    fun y x => score_load X3 0 (4 * k.val + 2) (by omega) oK.2.1.1 _ v1 y x
  have s03 : Score (arg3.view.read (Elt Ideal) X3) v1 0 (4 * k.val + 3)
      (k0_pay2 v1 (arg3.view.readAt (Elt Ideal) (Rect.unit (s := S1x4x32x256x128) (k0_off13 i k 1#32) S1x1x1x256x128.size (by rw [oK.2.2.1.1]; intro a; fin_cases a <;> simp <;> omega)).toLoadRect X3)) :=
    fun y x => score_load X3 0 (4 * k.val + 3) (by omega) oK.2.2.1.1 _ v1 y x
  have s04 : Score (arg3.view.read (Elt Ideal) X3) v1 0 (4 * k.val + 4)
      (k0_pay2 v1 (arg3.view.readAt (Elt Ideal) (Rect.unit (s := S1x4x32x256x128) (k0_off13 i k 2#32) S1x1x1x256x128.size (by rw [oK.2.2.2.1]; intro a; fin_cases a <;> simp <;> omega)).toLoadRect X3)) :=
    fun y x => score_load X3 0 (4 * k.val + 4) (by omega) oK.2.2.2.1 _ v1 y x
  have s11 : Score (arg3.view.read (Elt Ideal) X3) v3 1 (4 * k.val + 1)
      (k0_pay2 v3 (arg3.view.readAt (Elt Ideal) (Rect.unit (s := S1x4x32x256x128) (k0_off2 i k 1#32) S1x1x1x256x128.size (by rw [oK.1.2.1]; intro a; fin_cases a <;> simp <;> omega)).toLoadRect X3)) :=
    fun y x => score_load X3 1 (4 * k.val + 1) (by omega) oK.1.2.1 _ v3 y x
  have s12 : Score (arg3.view.read (Elt Ideal) X3) v3 1 (4 * k.val + 2)
      (k0_pay2 v3 (arg3.view.readAt (Elt Ideal) (Rect.unit (s := S1x4x32x256x128) (k0_off2 i k 2#32) S1x1x1x256x128.size (by rw [oK.2.1.2.1]; intro a; fin_cases a <;> simp <;> omega)).toLoadRect X3)) :=
    fun y x => score_load X3 1 (4 * k.val + 2) (by omega) oK.2.1.2.1 _ v3 y x
  have s13 : Score (arg3.view.read (Elt Ideal) X3) v3 1 (4 * k.val + 3)
      (k0_pay2 v3 (arg3.view.readAt (Elt Ideal) (Rect.unit (s := S1x4x32x256x128) (k0_off14 i k 1#32) S1x1x1x256x128.size (by rw [oK.2.2.1.2.1]; intro a; fin_cases a <;> simp <;> omega)).toLoadRect X3)) :=
    fun y x => score_load X3 1 (4 * k.val + 3) (by omega) oK.2.2.1.2.1 _ v3 y x
  have s14 : Score (arg3.view.read (Elt Ideal) X3) v3 1 (4 * k.val + 4)
      (k0_pay2 v3 (arg3.view.readAt (Elt Ideal) (Rect.unit (s := S1x4x32x256x128) (k0_off14 i k 2#32) S1x1x1x256x128.size (by rw [oK.2.2.2.2.1]; intro a; fin_cases a <;> simp <;> omega)).toLoadRect X3)) :=
    fun y x => score_load X3 1 (4 * k.val + 4) (by omega) oK.2.2.2.2.1 _ v3 y x
  have s21 : Score (arg3.view.read (Elt Ideal) X3) v5 2 (4 * k.val + 1)
      (k0_pay2 v5 (arg3.view.readAt (Elt Ideal) (Rect.unit (s := S1x4x32x256x128) (k0_off3 i k 1#32) S1x1x1x256x128.size (by rw [oK.1.2.2.1]; intro a; fin_cases a <;> simp <;> omega)).toLoadRect X3)) :=
    fun y x => score_load X3 2 (4 * k.val + 1) (by omega) oK.1.2.2.1 _ v5 y x
  have s22 : Score (arg3.view.read (Elt Ideal) X3) v5 2 (4 * k.val + 2)
      (k0_pay2 v5 (arg3.view.readAt (Elt Ideal) (Rect.unit (s := S1x4x32x256x128) (k0_off3 i k 2#32) S1x1x1x256x128.size (by rw [oK.2.1.2.2.1]; intro a; fin_cases a <;> simp <;> omega)).toLoadRect X3)) :=
    fun y x => score_load X3 2 (4 * k.val + 2) (by omega) oK.2.1.2.2.1 _ v5 y x
  have s23 : Score (arg3.view.read (Elt Ideal) X3) v5 2 (4 * k.val + 3)
      (k0_pay2 v5 (arg3.view.readAt (Elt Ideal) (Rect.unit (s := S1x4x32x256x128) (k0_off15 i k 1#32) S1x1x1x256x128.size (by rw [oK.2.2.1.2.2.1]; intro a; fin_cases a <;> simp <;> omega)).toLoadRect X3)) :=
    fun y x => score_load X3 2 (4 * k.val + 3) (by omega) oK.2.2.1.2.2.1 _ v5 y x
  have s24 : Score (arg3.view.read (Elt Ideal) X3) v5 2 (4 * k.val + 4)
      (k0_pay2 v5 (arg3.view.readAt (Elt Ideal) (Rect.unit (s := S1x4x32x256x128) (k0_off15 i k 2#32) S1x1x1x256x128.size (by rw [oK.2.2.2.2.2.1]; intro a; fin_cases a <;> simp <;> omega)).toLoadRect X3)) :=
    fun y x => score_load X3 2 (4 * k.val + 4) (by omega) oK.2.2.2.2.2.1 _ v5 y x
  have s31 : Score (arg3.view.read (Elt Ideal) X3) v7 3 (4 * k.val + 1)
      (k0_pay2 v7 (arg3.view.readAt (Elt Ideal) (Rect.unit (s := S1x4x32x256x128) (k0_off4 i k 1#32) S1x1x1x256x128.size (by rw [oK.1.2.2.2]; intro a; fin_cases a <;> simp <;> omega)).toLoadRect X3)) :=
    fun y x => score_load X3 3 (4 * k.val + 1) (by omega) oK.1.2.2.2 _ v7 y x
  have s32 : Score (arg3.view.read (Elt Ideal) X3) v7 3 (4 * k.val + 2)
      (k0_pay2 v7 (arg3.view.readAt (Elt Ideal) (Rect.unit (s := S1x4x32x256x128) (k0_off4 i k 2#32) S1x1x1x256x128.size (by rw [oK.2.1.2.2.2]; intro a; fin_cases a <;> simp <;> omega)).toLoadRect X3)) :=
    fun y x => score_load X3 3 (4 * k.val + 2) (by omega) oK.2.1.2.2.2 _ v7 y x
  have s33 : Score (arg3.view.read (Elt Ideal) X3) v7 3 (4 * k.val + 3)
      (k0_pay2 v7 (arg3.view.readAt (Elt Ideal) (Rect.unit (s := S1x4x32x256x128) (k0_off16 i k 1#32) S1x1x1x256x128.size (by rw [oK.2.2.1.2.2.2]; intro a; fin_cases a <;> simp <;> omega)).toLoadRect X3)) :=
    fun y x => score_load X3 3 (4 * k.val + 3) (by omega) oK.2.2.1.2.2.2 _ v7 y x
  have s34 : Score (arg3.view.read (Elt Ideal) X3) v7 3 (4 * k.val + 4)
      (k0_pay2 v7 (arg3.view.readAt (Elt Ideal) (Rect.unit (s := S1x4x32x256x128) (k0_off16 i k 2#32) S1x1x1x256x128.size (by rw [oK.2.2.2.2.2.2]; intro a; fin_cases a <;> simp <;> omega)).toLoadRect X3)) :=
    fun y x => score_load X3 3 (4 * k.val + 4) (by omega) oK.2.2.2.2.2.2 _ v7 y x
  refine ⟨?_, ?_, ?_, ?_, ?_, ?_, ?_, ?_⟩
  · unfold tripR_k0_t1 trip_k0_t1
    dsimp only
    sl_unfold_words
    simp (disch := decide) only [↓ View.readCov_skip, ↓ View.readCov_cons_toLoadRect]
    exact ((((((((H.c0).step hF.f0 H.s0 X5 hW (by omega) oV.1.1 (by rw [oV.1.1]; intro a; fin_cases a <;> simp <;> omega))).step hF.f0 s01 X5 hW (by omega) oV.2.1.1 (by rw [oV.2.1.1]; intro a; fin_cases a <;> simp <;> omega))).step hF.f0 s02 X5 hW (by omega) oV.2.2.1.1 (by rw [oV.2.2.1.1]; intro a; fin_cases a <;> simp <;> omega))).step hF.f0 s03 X5 hW (by omega) oV.2.2.2.1 (by rw [oV.2.2.2.1]; intro a; fin_cases a <;> simp <;> omega))
  · unfold tripR_k0_t1 trip_k0_t1
    dsimp only
    sl_unfold_words
    simp (disch := decide) only [↓ View.readCov_skip, ↓ View.readCov_cons_toLoadRect]
    exact ((((((((H.c1).step hF.f1 H.s1 X5 hW (by omega) oV.1.2.1 (by rw [oV.1.2.1]; intro a; fin_cases a <;> simp <;> omega))).step hF.f1 s11 X5 hW (by omega) oV.2.1.2.1 (by rw [oV.2.1.2.1]; intro a; fin_cases a <;> simp <;> omega))).step hF.f1 s12 X5 hW (by omega) oV.2.2.1.2.1 (by rw [oV.2.2.1.2.1]; intro a; fin_cases a <;> simp <;> omega))).step hF.f1 s13 X5 hW (by omega) oV.2.2.2.2.1 (by rw [oV.2.2.2.2.1]; intro a; fin_cases a <;> simp <;> omega))
  · unfold tripR_k0_t1 trip_k0_t1
    dsimp only
    sl_unfold_words
    simp (disch := decide) only [↓ View.readCov_skip, ↓ View.readCov_cons_toLoadRect]
    exact ((((((((H.c2).step hF.f2 H.s2 X5 hW (by omega) oV.1.2.2.1 (by rw [oV.1.2.2.1]; intro a; fin_cases a <;> simp <;> omega))).step hF.f2 s21 X5 hW (by omega) oV.2.1.2.2.1 (by rw [oV.2.1.2.2.1]; intro a; fin_cases a <;> simp <;> omega))).step hF.f2 s22 X5 hW (by omega) oV.2.2.1.2.2.1 (by rw [oV.2.2.1.2.2.1]; intro a; fin_cases a <;> simp <;> omega))).step hF.f2 s23 X5 hW (by omega) oV.2.2.2.2.2.1 (by rw [oV.2.2.2.2.2.1]; intro a; fin_cases a <;> simp <;> omega))
  · unfold tripR_k0_t1 trip_k0_t1
    dsimp only
    sl_unfold_words
    simp (disch := decide) only [↓ View.readCov_skip, ↓ View.readCov_cons_toLoadRect]
    exact ((((((((H.c3).step hF.f3 H.s3 X5 hW (by omega) oV.1.2.2.2 (by rw [oV.1.2.2.2]; intro a; fin_cases a <;> simp <;> omega))).step hF.f3 s31 X5 hW (by omega) oV.2.1.2.2.2 (by rw [oV.2.1.2.2.2]; intro a; fin_cases a <;> simp <;> omega))).step hF.f3 s32 X5 hW (by omega) oV.2.2.1.2.2.2 (by rw [oV.2.2.1.2.2.2]; intro a; fin_cases a <;> simp <;> omega))).step hF.f3 s33 X5 hW (by omega) oV.2.2.2.2.2.2 (by rw [oV.2.2.2.2.2.2]; intro a; fin_cases a <;> simp <;> omega))
  · unfold tripL_k0_t1 trip_k0_t1
    dsimp only
    sl_unfold_words
    rw [scr_writes]
    exact s04
  · unfold tripL_k0_t1 trip_k0_t1
    dsimp only
    sl_unfold_words
    rw [scr_writes]
    exact s14
  · unfold tripL_k0_t1 trip_k0_t1
    dsimp only
    sl_unfold_words
    rw [scr_writes]
    exact s24
  · unfold tripL_k0_t1 trip_k0_t1
    dsimp only
    sl_unfold_words
    rw [scr_writes]
    exact s34

end Cert.FoxIdeal.Hand
-- ==== Proof.FoxBlocks.lean ====
module

public import proofs.«01_k».proof.Proof.FoxHost
public import proofs.«01_k».proof.Proof.FoxTrip
public import Idealize.ShloMosaic.Lib.Pipeline.ValueKit.Geometry

@[expose] public section

set_option maxRecDepth 16384

noncomputable section

namespace Cert.FoxIdeal.Hand

open Cert.FoxIdeal Cert.FoxIdeal.Gen Cert.FoxMath Idealize.ShloMosaic Idealize.ShloMosaic.TcCoe Idealize.ShloMosaic.Tactic Idealize.SL.Sem

/-! ## What the input blocks hold -/

/-- The batch, the head and the query that a grid point's coordinates name; a key by its number. -/
def batchOf (t : Fin cfg0.N) : Fin 4 := ⟨(grid0.coords t 0).val, (grid0.coords t 0).isLt⟩
def headOf (t : Fin cfg0.N) (h : Fin 4) : Fin 8 :=
  ⟨4 * (grid0.coords t 1).val + h.val, by have : (grid0.coords t 1).val < 2 := (grid0.coords t 1).isLt; have := h.isLt; omega⟩
def queryOf (t : Fin cfg0.N) (x : Fin 512) : Fin 8192 :=
  ⟨512 * (grid0.coords t 2).val + x.val, by have : (grid0.coords t 2).val < 16 := (grid0.coords t 2).isLt; have := x.isLt; omega⟩
def keyOf (j : ℕ) : Fin 8192 := Fin.ofNat 8192 j

/-- The input windows' positions, from the grid point. -/
theorem index0 : ∀ t : Fin cfg0.N, win0_0.index t = ![(grid0.coords t 0).val, (grid0.coords t 1).val, 0, 0, 0] :=
  (by decide +kernel : ∀ t : Fin grid0.N, win0_0.index t = ![(grid0.coords t 0).val, (grid0.coords t 1).val, 0, 0, 0])
theorem index1 : ∀ t : Fin cfg0.N, win0_1.index t = ![(grid0.coords t 0).val, (grid0.coords t 1).val, 0, (grid0.coords t 2).val] :=
  (by decide +kernel : ∀ t : Fin grid0.N, win0_1.index t = ![(grid0.coords t 0).val, (grid0.coords t 1).val, 0, (grid0.coords t 2).val])
theorem index2 : ∀ t : Fin cfg0.N, win0_2.index t = ![(grid0.coords t 0).val, (grid0.coords t 1).val, 0, 0, 0] :=
  (by decide +kernel : ∀ t : Fin grid0.N, win0_2.index t = ![(grid0.coords t 0).val, (grid0.coords t 1).val, 0, 0, 0])

variable (m : (ℓ : Loc nD τ sig) → Buf (Elt Ideal) ℓ)

theorem keys_shape (X : FVec Ideal S4x8x8192x128 .bf16) (b : Fin 4) (h : Fin 8) (j : ℕ) (d : Fin 128) :
    shapeCast S4x8x32x256x128 X shapeCasts_S4x8x8192x128_S4x8x32x256x128 (ix5 b h (Fin.ofNat 32 (j / 256)) (Fin.ofNat 256 j) d) = X (ix4 b h (keyOf j) d) := by
  refine shapeCast_apply X _ _ _ ?_
  rw [Shape.rowMajor_val_four, Shape.rowMajor_val_five]
  show ((b.val * 8 + h.val) * 8192 + j % 8192) * 128 + d.val = (((b.val * 8 + h.val) * 32 + j / 256 % 32) * 256 + j % 256) * 128 + d.val
  omega

theorem values_shape (X : FVec Ideal S4x8x80x8192 .bf16) (b : Fin 4) (h : Fin 8) (j : ℕ) (d : Fin 80) :
    transpose S4x8x32x80x256 [0, 1, 3, 2, 4] (shapeCast S4x8x80x32x256 X shapeCasts_S4x8x80x8192_S4x8x80x32x256)
      transposes_S4x8x80x32x256_S4x8x32x80x256_0_1_3_2_4 (ix5 b h (Fin.ofNat 32 (j / 256)) d (Fin.ofNat 256 j)) = X (ix4 b h d (keyOf j)) := by
  rw [show transpose S4x8x32x80x256 [0, 1, 3, 2, 4] (shapeCast S4x8x80x32x256 X shapeCasts_S4x8x80x8192_S4x8x80x32x256)
      transposes_S4x8x80x32x256_S4x8x32x80x256_0_1_3_2_4 (ix5 b h (Fin.ofNat 32 (j / 256)) d (Fin.ofNat 256 j))
    = shapeCast S4x8x80x32x256 X shapeCasts_S4x8x80x8192_S4x8x80x32x256 (ix5 b h d (Fin.ofNat 32 (j / 256)) (Fin.ofNat 256 j)) by
      generalize shapeCast S4x8x80x32x256 X shapeCasts_S4x8x80x8192_S4x8x80x32x256 = Y
      pointwise]
  refine shapeCast_apply X _ _ _ ?_
  rw [Shape.rowMajor_val_four, Shape.rowMajor_val_five]
  show ((b.val * 8 + h.val) * 80 + d.val) * 8192 + j % 8192 = (((b.val * 8 + h.val) * 80 + d.val) * 32 + j / 256 % 32) * 256 + j % 256
  omega

/-- A block of the key array read where the block lies in it. -/
theorem keys_block (c : Dev nD) (t : Fin cfg0.N) (h : Fin 4) (n : Fin 32) (y : Fin 256) (d : Fin 128)
    (Y : Buf (Elt Ideal) ((c : Thread nD τ).loc (Pipeline.arrRef spec0 0))) :
    (((cfg0.win 0).blk t).view.read (Elt Ideal) Y : S1x4x32x256x128.Idx → EReal) (ix5 0 h n y d) = (Y : S4x8x32x256x128.Idx → EReal) (ix5 (batchOf t) (headOf t h) n y d) := by
  unfold batchOf headOf
  have hn := n.isLt
  have hy := y.isLt
  blk_simp [index0 t]
  refine congrArg Y ?_
  clear Y
  funext a
  apply Fin.ext
  fin_cases a
  · blk_simp [index0 t]
    rfl
  · blk_simp [index0 t]
    show (grid0.coords t 1).val * 4 + h.val = 4 * (grid0.coords t 1).val + h.val
    omega
  all_goals
    blk_simp [index0 t]
    rfl

theorem keys_at (c : Dev nD) (t : Fin cfg0.N) (h : Fin 4) (j : ℕ) (d : Fin 128) :
    (iblk m c 0 t : S1x4x32x256x128.Idx → EReal) (keyIx h j d) = keyWide (m ((c : Thread nD τ).loc main_arg1)) (m ((c : Thread nD τ).loc main_arg3)) (ix4 (batchOf t) (headOf t h) (keyOf j) d) := by
  unfold iblk keyIx
  rw [keys_block c t h (Fin.ofNat 32 (j / 256)) (Fin.ofNat 256 j) d (V m c (Pipeline.arrRef spec0 0)), show V m c (Pipeline.arrRef spec0 0) = _ from V_keys m c, keys_shape]

theorem queries_at (c : Dev nD) (t : Fin cfg0.N) (h : Fin 4) (d : Fin 128) (x : Fin 512) :
    (iblk m c 1 t : S1x4x128x512.Idx → EReal) (ix4 0 h d x) = queryWide (m ((c : Thread nD τ).loc main_arg0)) (m ((c : Thread nD τ).loc main_arg3)) (ix4 (batchOf t) (headOf t h) d (queryOf t x)) := by
  rw [← V_queries m c]
  unfold batchOf headOf queryOf
  blk_ext [iblk, index1 t]

/-- A block of the value array read where the block lies in it. -/
theorem values_block (c : Dev nD) (t : Fin cfg0.N) (h : Fin 4) (n : Fin 32) (d : Fin 80) (y : Fin 256)
    (Y : Buf (Elt Ideal) ((c : Thread nD τ).loc (Pipeline.arrRef spec0 2))) :
    (((cfg0.win 2).blk t).view.read (Elt Ideal) Y : S1x4x32x80x256.Idx → EReal) (ix5 0 h n d y) = (Y : S4x8x32x80x256.Idx → EReal) (ix5 (batchOf t) (headOf t h) n d y) := by
  unfold batchOf headOf
  have hn := n.isLt
  have hy := y.isLt
  blk_simp [index2 t]
  refine congrArg Y ?_
  clear Y
  funext a
  apply Fin.ext
  fin_cases a
  · blk_simp [index2 t]
    rfl
  · blk_simp [index2 t]
    show (grid0.coords t 1).val * 4 + h.val = 4 * (grid0.coords t 1).val + h.val
    omega
  all_goals
    blk_simp [index2 t]
    rfl

theorem values_at (c : Dev nD) (t : Fin cfg0.N) (h : Fin 4) (d : Fin 80) (j : ℕ) :
    (iblk m c 2 t : S1x4x32x80x256.Idx → EReal) (valIx h d j) = valueWide (m ((c : Thread nD τ).loc main_arg2)) (ix4 (batchOf t) (headOf t h) d (keyOf j)) := by
  unfold iblk valIx
  rw [values_block c t h (Fin.ofNat 32 (j / 256)) d (Fin.ofNat 256 j) (V m c (Pipeline.arrRef spec0 2)), show V m c (Pipeline.arrRef spec0 2) = _ from V_values m c, values_shape]

end Cert.FoxIdeal.Hand

end
-- ==== Proof.FoxLoop.lean ====
module

public import proofs.«01_k».proof.Proof.FoxTrip

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem

/-- Loop 1, from its entry to its exit. -/
theorem loop1 {𝒱 : Variants} {c : Dev nD} {bd : Option 𝒱.V} {i : grid0.Coords} {arg3 : Memref sig .tc .vmem S1x4x32x256x128 .bf16} {harg3 : arg3.IsWhole} {arg4 : Memref sig .tc .vmem S1x4x128x512 .bf16} {harg4 : arg4.IsWhole} {arg5 : Memref sig .tc .vmem S1x4x32x80x256 .bf16} {harg5 : arg5.IsWhole} {arg6 : Memref sig .tc .vmem S1x256x512 .f32} {harg6 : arg6.IsWhole} {arg7 : Memref sig .tc .vmem S4x256x512 .f32} {harg7 : arg7.IsWhole} {arg8 : Memref sig .tc .vmem S4x256x512 .f32} {harg8 : arg8.IsWhole}
  {arg2 : BitVec 32} {v1 v3 v5 v7 : FVec Ideal S128x512 .bf16} {v8 : FVec Ideal S1x512 .f32} {v9 : FVec Ideal S80x512 .f32} {v10 : FVec Ideal S1x512 .f32} {v11 : FVec Ideal S80x512 .f32} {v12 : FVec Ideal S1x512 .f32} {v13 : FVec Ideal S80x512 .f32} {v14 : FVec Ideal S1x512 .f32} {v15 : FVec Ideal S80x512 .f32} {c2_i32 v40 v45 v47 c0_i32_57 : BitVec 32} {X3 : BufTy.Contents (Elt Ideal) arg3.view.ty} {X5 : BufTy.Contents (Elt Ideal) arg5.view.ty}
    {g : arg7.view.ty.Contents (Elt Ideal)} {L : List (View.Piece (Elt Ideal) S4x256x512 .f32)} {G8 : arg8.view.ty.Contents (Elt Ideal)}
    {init : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32}
    {K : S1x4x32x256x128.Idx → EReal} {W : S1x4x32x80x256.Idx → EReal}  (hK : arg3.view.read (Elt Ideal) X3 = K) (hW : arg5.view.read (Elt Ideal) X5 = W)
    (hF : AllFin K v1 v3 v5 v7) (H : Heads K W v1 v3 v5 v7 (0) init arg7.view (arg7.view.writes (Elt Ideal) g L)) :
    Heads K W v1 v3 v5 v7 (4 * ((i 2).val / 2)) (st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init (k0_t1_loop i).trips).1 arg7.view
      (arg7.view.writes (Elt Ideal) g ((st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init (k0_t1_loop i).trips).2.1 ++ L)) := by
  have h0 := (trips_closed i).1
  have hi : (i 2).val < 16 := (i 2).isLt
  suffices h : ∀ k, k ≤ (k0_t1_loop i).trips → Heads K W v1 v3 v5 v7 (4 * k) (st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init k).1 arg7.view
      (arg7.view.writes (Elt Ideal) g ((st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init k).2.1 ++ L)) by
    have := h _ le_rfl
    rwa [show 4 * (k0_t1_loop i).trips = 4 * ((i 2).val / 2) by rw [h0]] at this
  intro k
  induction k with
  | zero => exact fun _ => H
  | succ k ih =>
    intro hk
    have hs := st_k0_t1_succ 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init ⟨k, hk⟩
    dsimp only at hs
    rw [hs]
    dsimp only
    rw [List.append_assoc, View.writes_append, View.writes_append]
    have hk' := ih (Nat.le_of_succ_le hk)
    rw [View.writes_append] at hk'
    have := trip1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 ⟨k, hk⟩ (st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init k).1 (arg7.view.writes (Elt Ideal) (arg7.view.writes (Elt Ideal) g L) (st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init k).2.1)
      (arg8.view.writes (Elt Ideal) G8 (st_k0_t1 𝒱 c bd i arg3 harg3 arg4 harg4 arg5 harg5 arg6 harg6 arg7 harg7 arg8 harg8 arg2 v1 v3 v5 v7 v8 v9 v10 v11 v12 v13 v14 v15 c2_i32 v40 v45 v47 c0_i32_57 X3 X5 (arg7.view.writes (Elt Ideal) g L) G8 init k).2.2) hK hW (by dsimp only; omega) hF hk'
    exact this

/-- Loop 2, from its entry to its exit. -/
theorem loop2 {𝒱 : Variants} {c : Dev nD} {bd : Option 𝒱.V} {i : grid0.Coords} {arg3 : Memref sig .tc .vmem S1x4x32x256x128 .bf16} {harg3 : arg3.IsWhole} {arg4 : Memref sig .tc .vmem S1x4x128x512 .bf16} {harg4 : arg4.IsWhole} {arg5 : Memref sig .tc .vmem S1x4x32x80x256 .bf16} {harg5 : arg5.IsWhole} {arg6 : Memref sig .tc .vmem S1x256x512 .f32} {harg6 : arg6.IsWhole} {arg7 : Memref sig .tc .vmem S4x256x512 .f32} {harg7 : arg7.IsWhole} {arg8 : Memref sig .tc .vmem S4x256x512 .f32} {harg8 : arg8.IsWhole}
  {arg2 : BitVec 32} {v1 v3 v5 v7 : FVec Ideal S128x512 .bf16} {v8 : FVec Ideal S1x512 .f32} {v9 : FVec Ideal S80x512 .f32} {v10 : FVec Ideal S1x512 .f32} {v11 : FVec Ideal S80x512 .f32} {v12 : FVec Ideal S1x512 .f32} {v13 : FVec Ideal S80x512 .f32} {v14 : FVec Ideal S1x512 .f32} {v15 : FVec Ideal S80x512 .f32} {c2_i32 v40 v45 v47 c0_i32_57 v81 : BitVec 32} {X3 : BufTy.Contents (Elt Ideal) arg3.view.ty} {X5 : BufTy.Contents (Elt Ideal) arg5.view.ty}
    {g : arg7.view.ty.Contents (Elt Ideal)} {L : List (View.Piece (Elt Ideal) S4x256x512 .f32)} {G8 : arg8.view.ty.Contents (Elt Ideal)}
    {init : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32}
    {K : S1x4x32x256x128.Idx → EReal} {W : S1x4x32x80x256.Idx → EReal} {b : ℕ} (hK : arg3.view.read (Elt Ideal) X3 = K) (hW : arg5.view.read (Elt Ideal) X5 = W)
    (hF : AllFin K v1 v3 v5 v7) (H : Heads K W v1 v3 v5 v7 (b) init arg7.view (arg7.view.writes (Elt Ideal) g L)) :
    Heads K W v1 v3 v5 v7 (b) (st_k0_t2 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t2_loop i).trips).1 arg7.view
      (arg7.view.writes (Elt Ideal) g ((st_k0_t2 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t2_loop i).trips).2.1 ++ L)) := by
  have h0 : (k0_t2_loop i).trips = 0 := (trips_closed i).2.1
  rw [h0]
  exact H

/-- Loop 3, from its entry to its exit. -/
theorem loop3 {𝒱 : Variants} {c : Dev nD} {bd : Option 𝒱.V} {i : grid0.Coords} {arg3 : Memref sig .tc .vmem S1x4x32x256x128 .bf16} {harg3 : arg3.IsWhole} {arg4 : Memref sig .tc .vmem S1x4x128x512 .bf16} {harg4 : arg4.IsWhole} {arg5 : Memref sig .tc .vmem S1x4x32x80x256 .bf16} {harg5 : arg5.IsWhole} {arg6 : Memref sig .tc .vmem S1x256x512 .f32} {harg6 : arg6.IsWhole} {arg7 : Memref sig .tc .vmem S4x256x512 .f32} {harg7 : arg7.IsWhole} {arg8 : Memref sig .tc .vmem S4x256x512 .f32} {harg8 : arg8.IsWhole}
  {arg2 : BitVec 32} {v1 v3 v5 v7 : FVec Ideal S128x512 .bf16} {v8 : FVec Ideal S1x512 .f32} {v9 : FVec Ideal S80x512 .f32} {v10 : FVec Ideal S1x512 .f32} {v11 : FVec Ideal S80x512 .f32} {v12 : FVec Ideal S1x512 .f32} {v13 : FVec Ideal S80x512 .f32} {v14 : FVec Ideal S1x512 .f32} {v15 : FVec Ideal S80x512 .f32} {c2_i32 v40 v45 v47 c0_i32_57 v81 : BitVec 32} {X3 : BufTy.Contents (Elt Ideal) arg3.view.ty} {X5 : BufTy.Contents (Elt Ideal) arg5.view.ty}
    {g : arg7.view.ty.Contents (Elt Ideal)} {L : List (View.Piece (Elt Ideal) S4x256x512 .f32)} {G8 : arg8.view.ty.Contents (Elt Ideal)}
    {init : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32}
    {K : S1x4x32x256x128.Idx → EReal} {W : S1x4x32x80x256.Idx → EReal}  (hK : arg3.view.read (Elt Ideal) X3 = K) (hW : arg5.view.read (Elt Ideal) X5 = W)
    (hF : AllFin K v1 v3 v5 v7) (H : Heads K W v1 v3 v5 v7 (4 * ((i 2).val / 2)) init arg7.view (arg7.view.writes (Elt Ideal) g L)) :
    Heads K W v1 v3 v5 v7 (4 * ((i 2).val / 2) + 2 * ((i 2).val % 2)) (st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t3_loop i).trips).1 arg7.view
      (arg7.view.writes (Elt Ideal) g ((st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t3_loop i).trips).2.1 ++ L)) := by
  have h0 := (trips_closed i).2.2.1
  have hi : (i 2).val < 16 := (i 2).isLt
  suffices h : ∀ k, k ≤ (k0_t3_loop i).trips → Heads K W v1 v3 v5 v7 (4 * ((i 2).val / 2) + 2 * k) (st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init k).1 arg7.view
      (arg7.view.writes (Elt Ideal) g ((st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init k).2.1 ++ L)) by
    have := h _ le_rfl
    rwa [show 4 * ((i 2).val / 2) + 2 * (k0_t3_loop i).trips = 4 * ((i 2).val / 2) + 2 * ((i 2).val % 2) by rw [h0]] at this
  intro k
  induction k with
  | zero => exact fun _ => H
  | succ k ih =>
    intro hk
    have hs := st_k0_t3_succ 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init ⟨k, hk⟩
    dsimp only at hs
    rw [hs]
    dsimp only
    rw [List.append_assoc, View.writes_append, View.writes_append]
    have hk' := ih (Nat.le_of_succ_le hk)
    rw [View.writes_append] at hk'
    have := trip3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 ⟨k, hk⟩ (st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init k).1 (arg7.view.writes (Elt Ideal) (arg7.view.writes (Elt Ideal) g L) (st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init k).2.1)
      (arg8.view.writes (Elt Ideal) G8 (st_k0_t3 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init k).2.2) hK hW (by dsimp only; omega) hF hk'
    exact this

/-- Loop 4, from its entry to its exit. -/
theorem loop4 {𝒱 : Variants} {c : Dev nD} {bd : Option 𝒱.V} {i : grid0.Coords} {arg3 : Memref sig .tc .vmem S1x4x32x256x128 .bf16} {harg3 : arg3.IsWhole} {arg4 : Memref sig .tc .vmem S1x4x128x512 .bf16} {harg4 : arg4.IsWhole} {arg5 : Memref sig .tc .vmem S1x4x32x80x256 .bf16} {harg5 : arg5.IsWhole} {arg6 : Memref sig .tc .vmem S1x256x512 .f32} {harg6 : arg6.IsWhole} {arg7 : Memref sig .tc .vmem S4x256x512 .f32} {harg7 : arg7.IsWhole} {arg8 : Memref sig .tc .vmem S4x256x512 .f32} {harg8 : arg8.IsWhole}
  {arg2 : BitVec 32} {v1 v3 v5 v7 : FVec Ideal S128x512 .bf16} {v8 : FVec Ideal S1x512 .f32} {v9 : FVec Ideal S80x512 .f32} {v10 : FVec Ideal S1x512 .f32} {v11 : FVec Ideal S80x512 .f32} {v12 : FVec Ideal S1x512 .f32} {v13 : FVec Ideal S80x512 .f32} {v14 : FVec Ideal S1x512 .f32} {v15 : FVec Ideal S80x512 .f32} {c2_i32 v40 v45 v47 c0_i32_57 v81 : BitVec 32} {X3 : BufTy.Contents (Elt Ideal) arg3.view.ty} {X5 : BufTy.Contents (Elt Ideal) arg5.view.ty}
    {g : arg7.view.ty.Contents (Elt Ideal)} {L : List (View.Piece (Elt Ideal) S4x256x512 .f32)} {G8 : arg8.view.ty.Contents (Elt Ideal)}
    {init : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32}
    {K : S1x4x32x256x128.Idx → EReal} {W : S1x4x32x80x256.Idx → EReal} {b : ℕ} (hK : arg3.view.read (Elt Ideal) X3 = K) (hW : arg5.view.read (Elt Ideal) X5 = W)
    (hF : AllFin K v1 v3 v5 v7) (H : Heads K W v1 v3 v5 v7 (b) init arg7.view (arg7.view.writes (Elt Ideal) g L)) :
    Heads K W v1 v3 v5 v7 (b) (st_k0_t4 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t4_loop i).trips).1 arg7.view
      (arg7.view.writes (Elt Ideal) g ((st_k0_t4 𝒱 c bd i arg3 harg3 arg4 harg4 arg5 harg5 arg6 harg6 arg7 harg7 arg8 harg8 arg2 v1 v3 v5 v7 v8 v9 v10 v11 v12 v13 v14 v15 c2_i32 v40 v45 v47 c0_i32_57 v81 X3 X5 (arg7.view.writes (Elt Ideal) g L) G8 init (k0_t4_loop i).trips).2.1 ++ L)) := by
  have h0 : (k0_t4_loop i).trips = 0 := (trips_closed i).2.2.2
  rw [h0]
  exact H

end Cert.FoxIdeal.Hand
-- ==== Proof.FoxAfter.lean ====
module

public import proofs.«01_k».proof.Proof.FoxRun
public import proofs.«01_k».proof.Proof.FoxLoop

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem

/-- Before the first block a head carries nothing. -/
theorem Carry.init {K W q h m a} (hm : ∀ x : Fin 512, m (ix2 0 x) = ⊥) (ha : ∀ (r : Fin 80) (x : Fin 512), a (ix2 r x) = 0) :
    Carry K W q h 0 m a := fun x => .inl ⟨hm x, fun r => ha r x, rfl⟩

theorem top_init (x : Fin 512) : (k0_pay286 : FVec Ideal S1x512 .f32) (ix2 0 x) = ⊥ := by
  unfold k0_pay286
  pointwise
  rfl

theorem acc_init (r : Fin 80) (x : Fin 512) : (k0_pay287 : FVec Ideal S80x512 .f32) (ix2 r x) = 0 := by
  unfold k0_pay287
  pointwise

variable (c : Dev nD) (i : grid0.Coords) (arg3 : Memref sig .tc .vmem S1x4x32x256x128 .bf16) (harg3 : arg3.IsWhole)
  (arg4 : Memref sig .tc .vmem S1x4x128x512 .bf16) (harg4 : arg4.IsWhole) (arg5 : Memref sig .tc .vmem S1x4x32x80x256 .bf16) (harg5 : arg5.IsWhole)
  (arg6 : Memref sig .tc .vmem S1x256x512 .f32) (harg6 : arg6.IsWhole) (arg7 : Memref sig .tc .vmem S4x256x512 .f32) (harg7 : arg7.IsWhole)
  (arg8 : Memref sig .tc .vmem S4x256x512 .f32) (harg8 : arg8.IsWhole)
  (x0 : Vec Ideal S1x4x32x256x128 .bf16) (x1 : Vec Ideal S1x4x128x512 .bf16) (x2 : Vec Ideal S1x4x32x80x256 .bf16)
  (g8 : arg8.view.ty.Contents (Elt Ideal))

/-- The four heads on entry to the loops: nothing carried, the first block's scores in the scratch. -/
theorem heads_init : Heads x0 x2 (bodyRun.sl.r c arg4 harg4 x1) (bodyRun.sl.r_1 c arg4 harg4 x1) (bodyRun.sl.r_2 c arg4 harg4 x1)
    (bodyRun.sl.r_3 c arg4 harg4 x1) 0
    (k0_pay286, k0_pay287, k0_pay288, k0_pay289, k0_pay290, k0_pay291, k0_pay292, k0_pay293) arg7.view
    (arg7.view.writes (Elt Ideal) arg7.view.junk (bodyRun.sl.HS0_4 c arg3 harg3 arg4 harg4 x0 x1)) := by
  have hK : arg3.view.read (Elt Ideal) (harg3.unread x0) = x0 := harg3.read_unread x0
  refine ⟨.init top_init acc_init, .init top_init acc_init, .init top_init acc_init, .init top_init acc_init, ?_, ?_, ?_, ?_⟩ <;>
    unfold bodyRun.sl.HS0_4 <;> rw [scr_writes]
  · exact fun y x => (score_load (harg3.unread x0) 0 0 (by decide) rfl _ (bodyRun.sl.r c arg4 harg4 x1) y x).trans (by rw [hK])
  · exact fun y x => (score_load (harg3.unread x0) 1 0 (by decide) rfl _ (bodyRun.sl.r_1 c arg4 harg4 x1) y x).trans (by rw [hK])
  · exact fun y x => (score_load (harg3.unread x0) 2 0 (by decide) rfl _ (bodyRun.sl.r_2 c arg4 harg4 x1) y x).trans (by rw [hK])
  · exact fun y x => (score_load (harg3.unread x0) 3 0 (by decide) rfl _ (bodyRun.sl.r_3 c arg4 harg4 x1) y x).trans (by rw [hK])

set_option maxHeartbeats 4000000 in
/-- The four heads after the loops: every block before the query tile's own taken, and the first of the tile's two
blocks of scores in the scratch. -/
theorem after_loops (hF : AllFin x0 (bodyRun.sl.r c arg4 harg4 x1) (bodyRun.sl.r_1 c arg4 harg4 x1) (bodyRun.sl.r_2 c arg4 harg4 x1)
    (bodyRun.sl.r_3 c arg4 harg4 x1)) :
    ∃ f, Heads x0 x2 (bodyRun.sl.r c arg4 harg4 x1) (bodyRun.sl.r_1 c arg4 harg4 x1) (bodyRun.sl.r_2 c arg4 harg4 x1)
        (bodyRun.sl.r_3 c arg4 harg4 x1) (2 * (i 2).val)
        (bodyRun.sl.r_4 c i arg3 harg3 arg4 harg4 arg5 harg5 arg6 harg6 arg7 harg7 arg8 harg8 x0 x1 x2 g8,
          bodyRun.sl.r_5 c i arg3 harg3 arg4 harg4 arg5 harg5 arg6 harg6 arg7 harg7 arg8 harg8 x0 x1 x2 g8,
          bodyRun.sl.r_6 c i arg3 harg3 arg4 harg4 arg5 harg5 arg6 harg6 arg7 harg7 arg8 harg8 x0 x1 x2 g8,
          bodyRun.sl.r_7 c i arg3 harg3 arg4 harg4 arg5 harg5 arg6 harg6 arg7 harg7 arg8 harg8 x0 x1 x2 g8,
          bodyRun.sl.r_8 c i arg3 harg3 arg4 harg4 arg5 harg5 arg6 harg6 arg7 harg7 arg8 harg8 x0 x1 x2 g8,
          bodyRun.sl.r_9 c i arg3 harg3 arg4 harg4 arg5 harg5 arg6 harg6 arg7 harg7 arg8 harg8 x0 x1 x2 g8,
          bodyRun.sl.r_10 c i arg3 harg3 arg4 harg4 arg5 harg5 arg6 harg6 arg7 harg7 arg8 harg8 x0 x1 x2 g8,
          bodyRun.sl.r_11 c i arg3 harg3 arg4 harg4 arg5 harg5 arg6 harg6 arg7 harg7 arg8 harg8 x0 x1 x2 g8) arg7.view f
      ∧ bodyRun.sl.v123 c i arg3 harg3 arg4 harg4 arg5 harg5 arg6 harg6 arg7 harg7 arg8 harg8 x0 x1 x2 g8 = scr arg7.view f 0
      ∧ bodyRun.sl.v136 c i arg3 harg3 arg4 harg4 arg5 harg5 arg6 harg6 arg7 harg7 arg8 harg8 x0 x1 x2 g8 = scr arg7.view f 1
      ∧ bodyRun.sl.v149 c i arg3 harg3 arg4 harg4 arg5 harg5 arg6 harg6 arg7 harg7 arg8 harg8 x0 x1 x2 g8 = scr arg7.view f 2
      ∧ bodyRun.sl.v162 c i arg3 harg3 arg4 harg4 arg5 harg5 arg6 harg6 arg7 harg7 arg8 harg8 x0 x1 x2 g8 = scr arg7.view f 3 := by
  have hK : arg3.view.read (Elt Ideal) (harg3.unread x0) = x0 := harg3.read_unread x0
  have hW : arg5.view.read (Elt Ideal) (harg5.unread x2) = x2 := harg5.read_unread x2
  rw [show 2 * (i 2).val = 4 * ((i 2).val / 2) + 2 * ((i 2).val % 2) by omega]
  exact ⟨_, loop4 hK hW hF (loop3 hK hW hF (loop2 hK hW hF (loop1 hK hW hF
    (heads_init c arg3 harg3 arg4 harg4 arg7 x0 x1 x2)))), rfl, rfl, rfl, rfl⟩

end Cert.FoxIdeal.Hand
-- ==== Proof.FoxDiag.lean ====
module

public import proofs.«01_k».proof.Proof.FoxTrip
public import Idealize.ShloMosaic.Lib.WordCmp

@[expose] public section

set_option maxRecDepth 16384

noncomputable section

namespace Cert.FoxIdeal.Hand

open Cert.FoxIdeal Cert.FoxIdeal.Gen Cert.FoxMath Idealize.ShloMosaic

theorem mask_named : (Named.named (F := Ideal) κ "mask" (φ := .f32) 0xF149F2CA#32 : EReal) = ⊥ := rfl

/-- A block of scores under a mask. -/
def masked (M : IVec S256x512 1) (s : Vec Ideal S1x256x512 .f32) : FVec Ideal S256x512 .f32 :=
  select M (shapeCast S256x512 s shapeCasts_S1x256x512_S256x512) (broadcast S256x512 (Named.named (F := Ideal) κ "mask" 0xF149F2CA#32))

theorem masked_apply (M : IVec S256x512 1) (s : Vec Ideal S1x256x512 .f32) (y : Fin 256) (x : Fin 512) :
    masked M s (ix2 y x) = if M (ix2 y x) = 1#1 then s (ix3 0 y x) else ⊥ := by
  unfold masked
  pointwise
  rfl

/-- The maximum after a block of scores. -/
def topM (m : FVec Ideal S1x512 .f32) (v : FVec Ideal S256x512 .f32) : FVec Ideal S1x512 .f32 :=
  maximumf m (shapeCast S1x512 (multiReduction .maximumf [0] S512 v 0xFF800000#32 reduces_S256x512_S512 (.inl rfl) rfl) shapeCasts_S512_S1x512)

/-- The accumulator after a block of scores. -/
def topA (m : FVec Ideal S1x512 .f32) (a : FVec Ideal S80x512 .f32) (v : FVec Ideal S256x512 .f32) (vb : Vec Ideal S1x1x1x80x256 .bf16) :
    FVec Ideal S80x512 .f32 :=
  addf (mulf (broadcastTo S80x512 (exp2 (subf m (topM m v))) broadcasts_S1x512_S80x512) a)
    (matmul dot_S80x256_S256x512_S80x512_1_0_0_1_n_n none (shapeCast S80x256 vb shapeCasts_S1x1x1x80x256_S80x256 : FVec Ideal S80x256 .bf16)
      (truncf .bf16 (exp2 (subf v (broadcastTo S256x512 (topM m v) broadcasts_S1x512_S256x512))) bitsLt_bf16_f32)
      (constant S80x512 .f32 0x00000000#32))

theorem topM_apply (m : FVec Ideal S1x512 .f32) (v : FVec Ideal S256x512 .f32) (x : Fin 512) :
    topM m v (ix2 0 x) = max (m (ix2 0 x)) (Finset.univ.fold max (⊥ : EReal) fun y : Fin 256 => v (ix2 y x)) := by
  unfold topM
  pointwise
  rw [negInf_bits]

theorem topA_apply (m : FVec Ideal S1x512 .f32) (a : FVec Ideal S80x512 .f32) (v : FVec Ideal S256x512 .f32)
    (vb : Vec Ideal S1x1x1x80x256 .bf16) (r : Fin 80) (x : Fin 512) :
    topA m a v vb (ix2 r x)
      = Ideal.exp2 (m (ix2 0 x) - topM m v (ix2 0 x)) * a (ix2 r x)
        + ∑ k : Fin 256, vb (ix5 0 0 0 r k) * Ideal.exp2 (v (ix2 k x) - topM m v (ix2 0 x)) := by
  unfold topA
  generalize topM m v = m'
  pointwise
  rfl

/-- The first half of the diagonal: key `y` of the block against query `x`. -/
theorem mask0_apply (y : Fin 256) (x : Fin 512) :
    k0_pay313 (iota Kind.tc S256x512 32 [0] iota_S256x512_d0_w32) (iota Kind.tc S256x512 32 [1] iota_S256x512_d1_w32) (ix2 y x) = 1#1
      ↔ y.val ≤ x.val := by
  unfold k0_pay313
  pointwise
  exact WordCmp.cmpi_sle_ofNat_eq_one_iff (by omega) (by omega)

theorem mask1_apply (y : Fin 256) (x : Fin 512) :
    k0_pay333 (iota Kind.tc S256x512 32 [0] iota_S256x512_d0_w32) (iota Kind.tc S256x512 32 [1] iota_S256x512_d1_w32) (ix2 y x) = 1#1
      ↔ y.val + 256 ≤ x.val := by
  unfold k0_pay333
  pointwise
  rw [show IntOp.addi (BitVec.ofNat 32 y.val) 256#32 = BitVec.ofNat 32 (y.val + 256) from (BitVec.ofNat_add ..).symm]
  exact WordCmp.cmpi_sle_ofNat_eq_one_iff (by omega) (by omega)

end Cert.FoxIdeal.Hand

namespace Cert.FoxMath
open Finset
/-- The state only looks at the keys taken. -/
theorem St.congr {m : EReal} {a : Fin 80 → EReal} {z z' : ℕ → EReal} {V : Fin 80 → ℕ → EReal} {n : ℕ} (h : St m a z V n)
    (e : ∀ j, j < n → z j = z' j) : St m a z' V n := by
  rcases h with h | ⟨ρ, h, h'⟩
  · exact .inl h
  · exact .inr ⟨ρ, h, fun r => (h' r).trans (sum_congr rfl fun j hj => by rw [e j (mem_range.mp hj)])⟩
end Cert.FoxMath

namespace Cert.FoxIdeal.Hand

open Cert.FoxIdeal Cert.FoxIdeal.Gen Cert.FoxMath Idealize.ShloMosaic

/-- One masked block. -/
theorem masked_step {m : FVec Ideal S1x512 .f32} {a : FVec Ideal S80x512 .f32} {z : ℕ → EReal} {V : Fin 80 → ℕ → EReal}
    {n : ℕ} {x : Fin 512} (h : St (m (ix2 0 x)) (fun r => a (ix2 r x)) z V n) (hz : ∀ j, z j ≠ ⊤) (h0 : z 0 ≠ ⊥)
    (v : FVec Ideal S256x512 .f32) (hs : ∀ y : Fin 256, v (ix2 y x) = z (n + y))
    (vb : Vec Ideal S1x1x1x80x256 .bf16) (hv : ∀ (r : Fin 80) (y : Fin 256), vb (ix5 0 0 0 r y) = V r (n + y)) :
    St (topM m v (ix2 0 x)) (fun r => topA m a v vb (ix2 r x)) z V (n + 256) :=
  h.step hz h0 (fun y => v (ix2 y x)) (fun r y => vb (ix5 0 0 0 r y)) hs hv _ (topM_apply m v x) _ (topA_apply m a v vb · x)

/-- The scores of query tile `t`, keys after the query out. -/
def zCausal (K : S1x4x32x256x128.Idx → EReal) (q : FVec Ideal S128x512 .bf16) (h : Fin 4) (t : ℕ) (x : Fin 512) (j : ℕ) : EReal :=
  if j ≤ 512 * t + x then zOf K q h x j else ⊥

/-- The two diagonal blocks. -/
theorem Carry.diag {K W q h t m a} (H : Carry K W q h (2 * t) m a) (ht : t < 16) (hz : Fin4 K q h) {s s'} (hs : Score K q h (2 * t) s)
    (hs' : Score K q h (2 * t + 1) s') {M M' : IVec S256x512 1} (hM : ∀ y x, M (ix2 y x) = 1#1 ↔ y.val ≤ x.val)
    (hM' : ∀ y x, M' (ix2 y x) = 1#1 ↔ y.val + 256 ≤ x.val)
    {v : View sig .tc .vmem S1x4x32x80x256 .bf16} (X : v.ty.Contents (Elt Ideal)) (hW : v.read (Elt Ideal) X = W) {off off' : Fin 5 → ℕ}
    (ho : off = ![0, h.val, 2 * t, 0, 0]) (ho' : off' = ![0, h.val, 2 * t + 1, 0, 0])
    (hin : ∀ a, off a + S1x1x1x80x256.size a ≤ S1x4x32x80x256.size a) (hin' : ∀ a, off' a + S1x1x1x80x256.size a ≤ S1x4x32x80x256.size a) (x : Fin 512) :
    St (topM (topM m (masked M s)) (masked M' s') (ix2 0 x))
      (fun r => topA (topM m (masked M s))
        (topA m a (masked M s) (v.readAt (Elt Ideal) (Rect.unit (s := S1x4x32x80x256) off S1x1x1x80x256.size hin).toLoadRect X)) (masked M' s')
        (v.readAt (Elt Ideal) (Rect.unit (s := S1x4x32x80x256) off' S1x1x1x80x256.size hin').toLoadRect X) (ix2 r x))
      (zCausal K q h t x) (fun r j => W (valIx h r j)) (256 * (2 * t) + 256 + 256) := by
  have hx := x.isLt
  have ht' : ∀ j, zCausal K q h t x j ≠ ⊤ := fun j => by
    unfold zCausal; split_ifs
    · exact (hz x j).1
    · exact bot_ne_top
  have h0 : zCausal K q h t x 0 ≠ ⊥ := by
    unfold zCausal; rw [if_pos (Nat.zero_le _)]; exact (hz x 0).2
  have H0 := St.congr (H x) (z' := zCausal K q h t x) fun j hj => by unfold zCausal; rw [if_pos (by omega)]
  refine masked_step (masked_step H0 ht' h0 _ (fun y => ?_) _ fun r y => ?_) ht' h0 _ (fun y => ?_) _ fun r y => ?_
  · rw [masked_apply, hs]; unfold zCausal
    exact if_congr ((hM y x).trans (by omega)) rfl rfl
  · rw [val_load X h (2 * t) (by omega) ho, hW]
  · rw [masked_apply, hs']; unfold zCausal
    rw [show 256 * (2 * t) + 256 + y.val = 256 * (2 * t + 1) + y.val by omega]
    exact if_congr ((hM' y x).trans (by omega)) rfl rfl
  · rw [val_load X h (2 * t + 1) (by omega) ho', hW, show 256 * (2 * t) + 256 + y.val = 256 * (2 * t + 1) + y.val by omega]

end Cert.FoxIdeal.Hand
-- ==== Proof.FoxBlock.lean ====
module

public import proofs.«01_k».proof.Proof.FoxAfter
public import proofs.«01_k».proof.Proof.FoxDiag
public import Idealize.ShloMosaic.Lib.WritesUnit

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem

/-- The mask of the query tile's first block of keys, and of its second. -/
def maskA : IVec S256x512 1 := k0_pay313 (iota Kind.tc S256x512 32 [0] iota_S256x512_d0_w32) (iota Kind.tc S256x512 32 [1] iota_S256x512_d1_w32)
def maskB : IVec S256x512 1 := k0_pay333 (iota Kind.tc S256x512 32 [0] iota_S256x512_d0_w32) (iota Kind.tc S256x512 32 [1] iota_S256x512_d1_w32)

/-- The accumulator after the query tile's own two blocks. -/
def lastA (m : FVec Ideal S1x512 .f32) (a : FVec Ideal S80x512 .f32) (s s' : Vec Ideal S1x256x512 .f32) (vb vb' : Vec Ideal S1x1x1x80x256 .bf16) :
    FVec Ideal S80x512 .f32 :=
  topA (topM m (masked maskA s)) (topA m a (masked maskA s) vb) (masked maskB s') vb'

/-- A head's rows of the output block: the accumulator's first 64 rows over its row of ones. -/
theorem out_apply (a : FVec Ideal S80x512 .f32) (d : Fin 64) (x : Fin 512) :
    k0_pay353 a (ix3 0 d x) = Ideal.div (a (ix2 (d.castLE (by decide)) x)) (a (ix2 64 x)) := by
  unfold k0_pay353
  pointwise
  rfl

/-- One head's queries. -/
def qOf (X : Vec Ideal S1x4x128x512 .bf16) (h : Fin 4) : FVec Ideal S128x512 .bf16 := fun j => X (ix4 0 h (j 0) (j 1))

theorem query_load {v : View sig .tc .vmem S1x4x128x512 .bf16} (X : v.ty.Contents (Elt Ideal)) (h : Fin 4)
    (hin : ∀ a, ![0, h.val, 0, 0] a + S1x1x128x512.size a ≤ S1x4x128x512.size a) :
    k0_pay282 (v.readAt (Elt Ideal) (Rect.unit (s := S1x4x128x512) ![0, h.val, 0, 0] S1x1x128x512.size hin).toLoadRect X)
      = qOf (v.read (Elt Ideal) X) h := by
  refine funext fun j => ?_
  rw [show j = ix2 (j 0) (j 1) from by funext a; fin_cases a <;> rfl]
  generalize j 0 = d
  generalize j 1 = x
  unfold k0_pay282
  pointwise
  rw [View.readAt_apply]
  unfold qOf
  congr 1
  funext a
  fin_cases a <;> first | rfl | exact Fin.ext ((Nat.zero_add _).trans (Nat.mul_one _)) | exact Fin.ext ((Nat.zero_add _).trans (Nat.one_mul _))

variable (c : Dev nD) (i : grid0.Coords) (arg3 : Memref sig .tc .vmem S1x4x32x256x128 .bf16) (harg3 : arg3.IsWhole)
  (arg4 : Memref sig .tc .vmem S1x4x128x512 .bf16) (harg4 : arg4.IsWhole) (arg5 : Memref sig .tc .vmem S1x4x32x80x256 .bf16) (harg5 : arg5.IsWhole)
  (arg6 : Memref sig .tc .vmem S1x256x512 .f32) (harg6 : arg6.IsWhole) (arg7 : Memref sig .tc .vmem S4x256x512 .f32) (harg7 : arg7.IsWhole)
  (arg8 : Memref sig .tc .vmem S4x256x512 .f32) (harg8 : arg8.IsWhole)
  (x0 : Vec Ideal S1x4x32x256x128 .bf16) (x1 : Vec Ideal S1x4x128x512 .bf16) (x2 : Vec Ideal S1x4x32x80x256 .bf16)
  (g8 : arg8.view.ty.Contents (Elt Ideal))

theorem q0_eq : bodyRun.sl.r c arg4 harg4 x1 = qOf x1 0 :=
  (query_load (harg4.unread x1) 0 _).trans (by rw [harg4.read_unread])

theorem q1_eq : bodyRun.sl.r_1 c arg4 harg4 x1 = qOf x1 1 :=
  (query_load (harg4.unread x1) 1 _).trans (by rw [harg4.read_unread])

theorem q2_eq : bodyRun.sl.r_2 c arg4 harg4 x1 = qOf x1 2 :=
  (query_load (harg4.unread x1) 2 _).trans (by rw [harg4.read_unread])

theorem q3_eq : bodyRun.sl.r_3 c arg4 harg4 x1 = qOf x1 3 :=
  (query_load (harg4.unread x1) 3 _).trans (by rw [harg4.read_unread])

/-- The second block's scores of head 0. -/
theorem second0 : Score x0 (bodyRun.sl.r c arg4 harg4 x1) 0 (2 * (i 2).val + 1)
    (bodyRun.sl.v208 c i arg3 harg3 arg4 harg4 arg5 harg5 arg6 harg6 arg7 harg7 arg8 harg8 x0 x1 x2 g8) := by
  have hi : (i 2).val < 16 := (i 2).isLt
  unfold bodyRun.sl.v208 bodyRun.sl.HS1_4
  simp (disch := decide) only [↓ View.readCov_skip, ↓ View.readCov_cons_toLoadRect]
  exact fun y x => (score_load (harg3.unread x0) 0 (2 * (i 2).val + 1) (by omega) (offK5 i).1 _ (bodyRun.sl.r c arg4 harg4 x1) y x).trans
    (by rw [harg3.read_unread])

/-- The second block's scores of head 1. -/
theorem second1 : Score x0 (bodyRun.sl.r_1 c arg4 harg4 x1) 1 (2 * (i 2).val + 1)
    (bodyRun.sl.v221 c i arg3 harg3 arg4 harg4 arg5 harg5 arg6 harg6 arg7 harg7 arg8 harg8 x0 x1 x2 g8) := by
  have hi : (i 2).val < 16 := (i 2).isLt
  unfold bodyRun.sl.v221 bodyRun.sl.HS1_4
  simp (disch := decide) only [↓ View.readCov_skip, ↓ View.readCov_cons_toLoadRect]
  exact fun y x => (score_load (harg3.unread x0) 1 (2 * (i 2).val + 1) (by omega) (offK5 i).2.1 _ (bodyRun.sl.r_1 c arg4 harg4 x1) y x).trans
    (by rw [harg3.read_unread])

/-- The second block's scores of head 2. -/
theorem second2 : Score x0 (bodyRun.sl.r_2 c arg4 harg4 x1) 2 (2 * (i 2).val + 1)
    (bodyRun.sl.v234 c i arg3 harg3 arg4 harg4 arg5 harg5 arg6 harg6 arg7 harg7 arg8 harg8 x0 x1 x2 g8) := by
  have hi : (i 2).val < 16 := (i 2).isLt
  unfold bodyRun.sl.v234 bodyRun.sl.HS1_4
  simp (disch := decide) only [↓ View.readCov_skip, ↓ View.readCov_cons_toLoadRect]
  exact fun y x => (score_load (harg3.unread x0) 2 (2 * (i 2).val + 1) (by omega) (offK5 i).2.2.1 _ (bodyRun.sl.r_2 c arg4 harg4 x1) y x).trans
    (by rw [harg3.read_unread])

/-- The second block's scores of head 3. -/
theorem second3 : Score x0 (bodyRun.sl.r_3 c arg4 harg4 x1) 3 (2 * (i 2).val + 1)
    (bodyRun.sl.v247 c i arg3 harg3 arg4 harg4 arg5 harg5 arg6 harg6 arg7 harg7 arg8 harg8 x0 x1 x2 g8) := by
  have hi : (i 2).val < 16 := (i 2).isLt
  unfold bodyRun.sl.v247 bodyRun.sl.HS1_4
  simp (disch := decide) only [↓ View.readCov_skip, ↓ View.readCov_cons_toLoadRect]
  exact fun y x => (score_load (harg3.unread x0) 3 (2 * (i 2).val + 1) (by omega) (offK5 i).2.2.2 _ (bodyRun.sl.r_3 c arg4 harg4 x1) y x).trans
    (by rw [harg3.read_unread])

end Cert.FoxIdeal.Hand
-- ==== Proof.FoxOut.lean ====
module

public import proofs.«01_k».proof.Proof.FoxBlock

@[expose] public section

set_option maxRecDepth 16384

noncomputable section

namespace Cert.FoxIdeal.Hand

open Cert.FoxIdeal Cert.FoxIdeal.Gen Cert.FoxMath Idealize.ShloMosaic Idealize.ShloMosaic.TcCoe Idealize.SL.Sem

variable (c : Dev nD) (i : grid0.Coords) (arg3 : Memref sig .tc .vmem S1x4x32x256x128 .bf16) (harg3 : arg3.IsWhole)
  (arg4 : Memref sig .tc .vmem S1x4x128x512 .bf16) (harg4 : arg4.IsWhole) (arg5 : Memref sig .tc .vmem S1x4x32x80x256 .bf16) (harg5 : arg5.IsWhole)
  (arg6 : Memref sig .tc .vmem S1x256x512 .f32) (harg6 : arg6.IsWhole) (arg7 : Memref sig .tc .vmem S4x256x512 .f32) (harg7 : arg7.IsWhole)
  (arg8 : Memref sig .tc .vmem S4x256x512 .f32) (harg8 : arg8.IsWhole)
  (x0 : Vec Ideal S1x4x32x256x128 .bf16) (x1 : Vec Ideal S1x4x128x512 .bf16) (x2 : Vec Ideal S1x4x32x80x256 .bf16)
  (g8 : arg8.view.ty.Contents (Elt Ideal))
  (g7 : arg7.view.ty.Contents (Elt Ideal))

/-- Head 0's accumulator at the end of the body. -/
def acc0 : FVec Ideal S80x512 .f32 :=
  lastA (bodyRun.sl.r_4 c i arg3 harg3 arg4 harg4 arg5 harg5 arg6 harg6 arg7 harg7 arg8 harg8 x0 x1 x2 g8) (bodyRun.sl.r_5 c i arg3 harg3 arg4 harg4 arg5 harg5 arg6 harg6 arg7 harg7 arg8 harg8 x0 x1 x2 g8)
    (bodyRun.sl.v123 c i arg3 harg3 arg4 harg4 arg5 harg5 arg6 harg6 arg7 harg7 arg8 harg8 x0 x1 x2 g8) (bodyRun.sl.v208 c i arg3 harg3 arg4 harg4 arg5 harg5 arg6 harg6 arg7 harg7 arg8 harg8 x0 x1 x2 g8)
    (arg5.view.readAt (Elt Ideal) (Rect.unit (s := S1x4x32x80x256) (k0_off77 i) S1x1x1x80x256.size (by have hi : (i 2).val < 16 := (i 2).isLt; rw [(offV5 i).1.1]; intro a; fin_cases a <;> simp <;> omega)).toLoadRect (harg5.unread x2))
    (arg5.view.readAt (Elt Ideal) (Rect.unit (s := S1x4x32x80x256) (k0_off81 i) S1x1x1x80x256.size (by have hi : (i 2).val < 16 := (i 2).isLt; rw [(offV5 i).2.1]; intro a; fin_cases a <;> simp <;> omega)).toLoadRect (harg5.unread x2))

/-- Head 1's accumulator at the end of the body. -/
def acc1 : FVec Ideal S80x512 .f32 :=
  lastA (bodyRun.sl.r_6 c i arg3 harg3 arg4 harg4 arg5 harg5 arg6 harg6 arg7 harg7 arg8 harg8 x0 x1 x2 g8) (bodyRun.sl.r_7 c i arg3 harg3 arg4 harg4 arg5 harg5 arg6 harg6 arg7 harg7 arg8 harg8 x0 x1 x2 g8)
    (bodyRun.sl.v136 c i arg3 harg3 arg4 harg4 arg5 harg5 arg6 harg6 arg7 harg7 arg8 harg8 x0 x1 x2 g8) (bodyRun.sl.v221 c i arg3 harg3 arg4 harg4 arg5 harg5 arg6 harg6 arg7 harg7 arg8 harg8 x0 x1 x2 g8)
    (arg5.view.readAt (Elt Ideal) (Rect.unit (s := S1x4x32x80x256) (k0_off78 i) S1x1x1x80x256.size (by have hi : (i 2).val < 16 := (i 2).isLt; rw [(offV5 i).1.2.1]; intro a; fin_cases a <;> simp <;> omega)).toLoadRect (harg5.unread x2))
    (arg5.view.readAt (Elt Ideal) (Rect.unit (s := S1x4x32x80x256) (k0_off82 i) S1x1x1x80x256.size (by have hi : (i 2).val < 16 := (i 2).isLt; rw [(offV5 i).2.2.1]; intro a; fin_cases a <;> simp <;> omega)).toLoadRect (harg5.unread x2))

/-- Head 2's accumulator at the end of the body. -/
def acc2 : FVec Ideal S80x512 .f32 :=
  lastA (bodyRun.sl.r_8 c i arg3 harg3 arg4 harg4 arg5 harg5 arg6 harg6 arg7 harg7 arg8 harg8 x0 x1 x2 g8) (bodyRun.sl.r_9 c i arg3 harg3 arg4 harg4 arg5 harg5 arg6 harg6 arg7 harg7 arg8 harg8 x0 x1 x2 g8)
    (bodyRun.sl.v149 c i arg3 harg3 arg4 harg4 arg5 harg5 arg6 harg6 arg7 harg7 arg8 harg8 x0 x1 x2 g8) (bodyRun.sl.v234 c i arg3 harg3 arg4 harg4 arg5 harg5 arg6 harg6 arg7 harg7 arg8 harg8 x0 x1 x2 g8)
    (arg5.view.readAt (Elt Ideal) (Rect.unit (s := S1x4x32x80x256) (k0_off79 i) S1x1x1x80x256.size (by have hi : (i 2).val < 16 := (i 2).isLt; rw [(offV5 i).1.2.2.1]; intro a; fin_cases a <;> simp <;> omega)).toLoadRect (harg5.unread x2))
    (arg5.view.readAt (Elt Ideal) (Rect.unit (s := S1x4x32x80x256) (k0_off83 i) S1x1x1x80x256.size (by have hi : (i 2).val < 16 := (i 2).isLt; rw [(offV5 i).2.2.2.1]; intro a; fin_cases a <;> simp <;> omega)).toLoadRect (harg5.unread x2))

/-- Head 3's accumulator at the end of the body. -/
def acc3 : FVec Ideal S80x512 .f32 :=
  lastA (bodyRun.sl.r_10 c i arg3 harg3 arg4 harg4 arg5 harg5 arg6 harg6 arg7 harg7 arg8 harg8 x0 x1 x2 g8) (bodyRun.sl.r_11 c i arg3 harg3 arg4 harg4 arg5 harg5 arg6 harg6 arg7 harg7 arg8 harg8 x0 x1 x2 g8)
    (bodyRun.sl.v162 c i arg3 harg3 arg4 harg4 arg5 harg5 arg6 harg6 arg7 harg7 arg8 harg8 x0 x1 x2 g8) (bodyRun.sl.v247 c i arg3 harg3 arg4 harg4 arg5 harg5 arg6 harg6 arg7 harg7 arg8 harg8 x0 x1 x2 g8)
    (arg5.view.readAt (Elt Ideal) (Rect.unit (s := S1x4x32x80x256) (k0_off80 i) S1x1x1x80x256.size (by have hi : (i 2).val < 16 := (i 2).isLt; rw [(offV5 i).1.2.2.2]; intro a; fin_cases a <;> simp <;> omega)).toLoadRect (harg5.unread x2))
    (arg5.view.readAt (Elt Ideal) (Rect.unit (s := S1x4x32x80x256) (k0_off84 i) S1x1x1x80x256.size (by have hi : (i 2).val < 16 := (i 2).isLt; rw [(offV5 i).2.2.2.2]; intro a; fin_cases a <;> simp <;> omega)).toLoadRect (harg5.unread x2))

/-- What the body stores: each head's rows. -/
theorem pieces : (bodyRun c i arg3 harg3 arg4 harg4 arg5 harg5 arg6 harg6 arg7 harg7 arg8 harg8 x0 x1 x2 g7 g8).1
    = [⟨Rect.unit (s := S1x256x512) ![0, 192, 0] S1x64x512.size inb_S1x256x512_S1x64x512_0_192_0, k0_pay353 (acc3 c i arg3 harg3 arg4 harg4 arg5 harg5 arg6 harg6 arg7 harg7 arg8 harg8 x0 x1 x2 g8)⟩,
      ⟨Rect.unit (s := S1x256x512) ![0, 128, 0] S1x64x512.size inb_S1x256x512_S1x64x512_0_128_0, k0_pay353 (acc2 c i arg3 harg3 arg4 harg4 arg5 harg5 arg6 harg6 arg7 harg7 arg8 harg8 x0 x1 x2 g8)⟩,
      ⟨Rect.unit (s := S1x256x512) ![0, 64, 0] S1x64x512.size inb_S1x256x512_S1x64x512_0_64_0, k0_pay353 (acc1 c i arg3 harg3 arg4 harg4 arg5 harg5 arg6 harg6 arg7 harg7 arg8 harg8 x0 x1 x2 g8)⟩,
      ⟨Rect.unit (s := S1x256x512) ![0, 0, 0] S1x64x512.size inb_S1x256x512_S1x64x512_0_0_0, k0_pay353 (acc0 c i arg3 harg3 arg4 harg4 arg5 harg5 arg6 harg6 arg7 harg7 arg8 harg8 x0 x1 x2 g8)⟩] := rfl

/-- The accumulators by head. -/
def accs (h : Fin 4) : FVec Ideal S80x512 .f32 := ![acc0 c i arg3 harg3 arg4 harg4 arg5 harg5 arg6 harg6 arg7 harg7 arg8 harg8 x0 x1 x2 g8, acc1 c i arg3 harg3 arg4 harg4 arg5 harg5 arg6 harg6 arg7 harg7 arg8 harg8 x0 x1 x2 g8, acc2 c i arg3 harg3 arg4 harg4 arg5 harg5 arg6 harg6 arg7 harg7 arg8 harg8 x0 x1 x2 g8, acc3 c i arg3 harg3 arg4 harg4 arg5 harg5 arg6 harg6 arg7 harg7 arg8 harg8 x0 x1 x2 g8] h

set_option maxHeartbeats 1000000 in
/-- The output block, entry by entry. -/
theorem out_read (f : arg6.view.ty.Contents (Elt Ideal)) (h : Fin 4) (d : Fin 64) (x : Fin 512) (k : Fin 256) (hk : k.val = 64 * h.val + d.val) :
    arg6.view.read (Elt Ideal) (arg6.view.writes (Elt Ideal) f (bodyRun c i arg3 harg3 arg4 harg4 arg5 harg5 arg6 harg6 arg7 harg7 arg8 harg8 x0 x1 x2 g7 g8).1) (ix3 0 k x)
      = Ideal.div (accs c i arg3 harg3 arg4 harg4 arg5 harg5 arg6 harg6 arg7 harg7 arg8 harg8 x0 x1 x2 g8 h (ix2 (d.castLE (by decide)) x)) (accs c i arg3 harg3 arg4 harg4 arg5 harg5 arg6 harg6 arg7 harg7 arg8 harg8 x0 x1 x2 g8 h (ix2 64 x)) := by
  have hd := d.isLt
  rw [pieces]
  match h, hk with
  | 0, hk =>
    have hk : k.val = d.val := by simpa using hk
    rw [View.read_writes_cons_unit_of_not_mem _ _ _ _ _ _ rfl 1 (.inl (show k.val < 192 by omega)),
      View.read_writes_cons_unit_of_not_mem _ _ _ _ _ _ rfl 1 (.inl (show k.val < 128 by omega)),
      View.read_writes_cons_unit_of_not_mem _ _ _ _ _ _ rfl 1 (.inl (show k.val < 64 by omega)),
      View.read_writes_cons_unit_of_mem _ _ _ _ _ _ (ix3 0 d x) rfl (fun a => by fin_cases a <;> simp <;> omega)]
    exact out_apply _ d x
  | 1, hk =>
    have hk : k.val = 64 + d.val := by simpa using hk
    rw [View.read_writes_cons_unit_of_not_mem _ _ _ _ _ _ rfl 1 (.inl (show k.val < 192 by omega)),
      View.read_writes_cons_unit_of_not_mem _ _ _ _ _ _ rfl 1 (.inl (show k.val < 128 by omega)),
      View.read_writes_cons_unit_of_mem _ _ _ _ _ _ (ix3 0 d x) rfl (fun a => by fin_cases a <;> simp <;> omega)]
    exact out_apply _ d x
  | 2, hk =>
    have hk : k.val = 128 + d.val := by simpa using hk
    rw [View.read_writes_cons_unit_of_not_mem _ _ _ _ _ _ rfl 1 (.inl (show k.val < 192 by omega)),
      View.read_writes_cons_unit_of_mem _ _ _ _ _ _ (ix3 0 d x) rfl (fun a => by fin_cases a <;> simp <;> omega)]
    exact out_apply _ d x
  | 3, hk =>
    have hk : k.val = 192 + d.val := by simpa using hk
    rw [View.read_writes_cons_unit_of_mem _ _ _ _ _ _ (ix3 0 d x) rfl (fun a => by fin_cases a <;> simp <;> omega)]
    exact out_apply _ d x

/-- Each accumulator is the state after the keys of every block up to the query tile's own. -/
theorem accs_state (hF : ∀ h, Fin4 x0 (qOf x1 h) h) (h : Fin 4) (x : Fin 512) :
    ∃ m : EReal, St m (fun r => accs c i arg3 harg3 arg4 harg4 arg5 harg5 arg6 harg6 arg7 harg7 arg8 harg8 x0 x1 x2 g8 h (ix2 r x)) (zCausal x0 (qOf x1 h) h (i 2).val x) (fun r j => x2 (valIx h r j))
      (256 * (2 * (i 2).val) + 256 + 256) := by
  have hi : (i 2).val < 16 := (i 2).isLt
  have hW : arg5.view.read (Elt Ideal) (harg5.unread x2) = x2 := harg5.read_unread x2
  obtain ⟨f, H, e0, e1, e2, e3⟩ := after_loops c i arg3 harg3 arg4 harg4 arg5 harg5 arg6 harg6 arg7 harg7 arg8 harg8 x0 x1 x2 g8
    ⟨by rw [q0_eq]; exact hF 0, by rw [q1_eq]; exact hF 1, by rw [q2_eq]; exact hF 2, by rw [q3_eq]; exact hF 3⟩
  match h with
  | 0 =>
    have S := second0 c i arg3 harg3 arg4 harg4 arg5 harg5 arg6 harg6 arg7 harg7 arg8 harg8 x0 x1 x2 g8
    have C := H.c0
    have T := H.s0
    rw [← e0] at T
    rw [q0_eq] at S C T
    exact ⟨_, C.diag hi (hF 0) T S mask0_apply mask1_apply (harg5.unread x2) hW (offV5 i).1.1 (offV5 i).2.1 _ _ x⟩
  | 1 =>
    have S := second1 c i arg3 harg3 arg4 harg4 arg5 harg5 arg6 harg6 arg7 harg7 arg8 harg8 x0 x1 x2 g8
    have C := H.c1
    have T := H.s1
    rw [← e1] at T
    rw [q1_eq] at S C T
    exact ⟨_, C.diag hi (hF 1) T S mask0_apply mask1_apply (harg5.unread x2) hW (offV5 i).1.2.1 (offV5 i).2.2.1 _ _ x⟩
  | 2 =>
    have S := second2 c i arg3 harg3 arg4 harg4 arg5 harg5 arg6 harg6 arg7 harg7 arg8 harg8 x0 x1 x2 g8
    have C := H.c2
    have T := H.s2
    rw [← e2] at T
    rw [q2_eq] at S C T
    exact ⟨_, C.diag hi (hF 2) T S mask0_apply mask1_apply (harg5.unread x2) hW (offV5 i).1.2.2.1 (offV5 i).2.2.2.1 _ _ x⟩
  | 3 =>
    have S := second3 c i arg3 harg3 arg4 harg4 arg5 harg5 arg6 harg6 arg7 harg7 arg8 harg8 x0 x1 x2 g8
    have C := H.c3
    have T := H.s3
    rw [← e3] at T
    rw [q3_eq] at S C T
    exact ⟨_, C.diag hi (hF 3) T S mask0_apply mask1_apply (harg5.unread x2) hW (offV5 i).1.2.2.2 (offV5 i).2.2.2.2 _ _ x⟩

end Cert.FoxIdeal.Hand
-- ==== Proof.FoxValue.lean ====
module

public import proofs.«01_k».proof.Proof.FoxIdealFrame
public import Idealize.ShloMosaic.Lib.Pipeline.ValueKit.Geometry
public import Idealize.ShloMosaic.Lib.Pointwise

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Where an entry of a grid point's output block lies in the output. -/
def tileIx (t : Fin cfg0.N) (y : S1x256x512.Idx) : S4x512x8192.Idx :=
  ix3 ⟨(grid0.coords t 0).val, (grid0.coords t 0).isLt⟩
    ⟨256 * (grid0.coords t 1).val + (y 1).val, by have : (grid0.coords t 1).val < 2 := (grid0.coords t 1).isLt; have : (y 1).val < 256 := (y 1).isLt; omega⟩
    ⟨512 * (grid0.coords t 2).val + (y 2).val, by have : (grid0.coords t 2).val < 16 := (grid0.coords t 2).isLt; have : (y 2).val < 512 := (y 2).isLt; omega⟩

/-- The output windows' positions, from the grid point. -/
theorem index3 : ∀ t : Fin cfg0.N, win0_3.index t = ![(grid0.coords t 0).val, (grid0.coords t 1).val, (grid0.coords t 2).val] :=
  (by decide +kernel : ∀ t : Fin grid0.N, win0_3.index t = ![(grid0.coords t 0).val, (grid0.coords t 1).val, (grid0.coords t 2).val])

variable (T : Dev nD → Vec Ideal S4x512x8192 .f32)

/-- At every grid point the body's pieces are `T`'s block, whatever the score buffers held. -/
def BlocksAre : Prop :=
  ∀ (c : Dev nD) (t : Fin cfg0.N) (h7 : scM0_0.IsWhole) (h8 : scM0_1.IsWhole) (f : (ms0_3 t).view.ty.Contents (Elt Ideal))
    (g7 : scM0_0.view.ty.Contents (Elt Ideal)) (g8 : scM0_1.view.ty.Contents (Elt Ideal)),
    (ms0_3 t).view.read (Elt Ideal) ((ms0_3 t).view.writes (Elt Ideal) f
      (bodyRun c (grid0.coords t) (ms0_0 t) (hs0_0 t) (ms0_1 t) (hs0_1 t) (ms0_2 t) (hs0_2 t) (ms0_3 t) (hs0_3 t) scM0_0 h7 scM0_1 h8
        (iblk m c 0 t) (iblk m c 1 t) (iblk m c 2 t) g7 g8).1) = fun y => T c (tileIx t y)

/-- What the pipeline's windows hold: each input's buffer at its block after the body, the output's at `T`'s block. -/
def valueDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun y : S1x256x512.Idx => T c (tileIx t y)
  Φ _ := Pipeline.ΦA spec0 c
  q _ := fullShare
  owed _ := 0

theorem valueDats_A (c : Dev nD) (w : Fin cfg0.W) : (valueDats m T 0 c).A w = V m c (Pipeline.arrRef spec0 w) := by
  dsimp only [valueDats]
theorem valueDats_after0 (c : Dev nD) (t : Fin cfg0.N) : (valueDats m T 0 c).after 0 t = iblk m c 0 t := by
  dsimp only [valueDats]
theorem valueDats_after1 (c : Dev nD) (t : Fin cfg0.N) : (valueDats m T 0 c).after 1 t = iblk m c 1 t := by
  dsimp only [valueDats]
theorem valueDats_after2 (c : Dev nD) (t : Fin cfg0.N) : (valueDats m T 0 c).after 2 t = iblk m c 2 t := by
  dsimp only [valueDats]
theorem valueDats_after3 (c : Dev nD) (t : Fin cfg0.N) : (valueDats m T 0 c).after 3 t = fun y : S1x256x512.Idx => T c (tileIx t y) := by
  dsimp only [valueDats]
theorem valueDats_before0 (c : Dev nD) (t : Fin cfg0.N) (d) : (valueDats m T 0 c).before 0 t d = iblk m c 0 t :=
  before0_0_of m (valueDats m T 0 c) (valueDats_A m T c 0) (valueDats_after0 m T c) t d
theorem valueDats_before1 (c : Dev nD) (t : Fin cfg0.N) (d) : (valueDats m T 0 c).before 1 t d = iblk m c 1 t :=
  before0_1_of m (valueDats m T 0 c) (valueDats_A m T c 1) (valueDats_after1 m T c) t d
theorem valueDats_before2 (c : Dev nD) (t : Fin cfg0.N) (d) : (valueDats m T 0 c).before 2 t d = iblk m c 2 t :=
  before0_2_of m (valueDats m T 0 c) (valueDats_A m T c 2) (valueDats_after2 m T c) t d

/-- The body at a grid point, from the inputs' blocks: it ends with them unchanged and the output's buffer at `T`'s block. -/
theorem value_body (hT : BlocksAre m T) (c : Dev nD) (t : Fin cfg0.N) :
    iprop((valueDats m T 0 c).Φ t.castSucc ∗ (valueDats m T 0 c).owesAt () t.castSucc
      ∗ (∃ d, owns (c : Thread nD τ) (ms0_0 t) fullShare ((valueDats m T 0 c).before 0 t d))
      ∗ (∃ d, owns (c : Thread nD τ) (ms0_1 t) fullShare ((valueDats m T 0 c).before 1 t d))
      ∗ (∃ d, owns (c : Thread nD τ) (ms0_2 t) fullShare ((valueDats m T 0 c).before 2 t d))
      ∗ (∃ d, owns (c : Thread nD τ) (ms0_3 t) fullShare ((valueDats m T 0 c).before 3 t d)))
    ⊢ wp frame (wpE (defs₀ (F := Ideal)) Variants.none c none) Set.univ (bodyAt0 t)
      (fun _ => (iprop((valueDats m T 0 c).Φ t.succ ∗ (valueDats m T 0 c).owesAt () t.succ
      ∗ owns (c : Thread nD τ) (ms0_0 t) fullShare ((valueDats m T 0 c).after 0 t)
      ∗ owns (c : Thread nD τ) (ms0_1 t) fullShare ((valueDats m T 0 c).after 1 t)
      ∗ owns (c : Thread nD τ) (ms0_2 t) fullShare ((valueDats m T 0 c).after 2 t)
      ∗ owns (c : Thread nD τ) (ms0_3 t) fullShare ((valueDats m T 0 c).after 3 t)) : sProp 𝕄)) := by
  unfold bodyAt0
  simp only [valueDats_before0, valueDats_before1, valueDats_before2]
  rw [show (valueDats m T 0 c).Φ t.succ = (valueDats m T 0 c).Φ t.castSucc from rfl,
    show (valueDats m T 0 c).owesAt () t.succ = (valueDats m T 0 c).owesAt () t.castSucc from rfl,
    valueDats_after0, valueDats_after1, valueDats_after2, valueDats_after3]
  rw [show (valueDats m T 0 c).Φ t.castSucc = Pipeline.ΦA spec0 c from rfl, PhiA0_eq]
  iintro ⟨⟨⟨⟨%ds0, HS0⟩, ⟨%ds1, HS1⟩⟩, Hg⟩, Ho, ⟨%d0, H0⟩, ⟨%d1, H1⟩, ⟨%d2, H2⟩, ⟨%d3, H3⟩⟩
  unfold owns
  icases HS0 with ⟨%fs0, -, HS0⟩
  icases HS1 with ⟨%fs1, -, HS1⟩
  iapply ((bodyRun c (grid0.coords t) (ms0_0 t) (hs0_0 t) (ms0_1 t) (hs0_1 t) (ms0_2 t) (hs0_2 t) (ms0_3 t) (hs0_3 t) scM0_0
    (Memref.isWhole_whole _) scM0_1 (Memref.isWhole_whole _) (iblk m c 0 t) (iblk m c 1 t) (iblk m c 2 t) fs0 fs1).2 Set.univ _)
  unfold owns
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%f3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexists _; isplitr; swap; · iexact H3
  ipureintro
  exact hT c t _ _ f3 fs0 fs1

theorem value_obligation (hT : BlocksAre m T) (c : Dev nD) :
    BodyObligation (valueDats m T 0 c) (defs₀ (F := Ideal)) Variants.none () Set.univ := fun t => by
  rw [bigSep_W0, bigSep_W0, body_row]
  exact triple_restated (value_body m T hT c t) rfl .rfl fun _ => .rfl

set_option backward.isDefEq.respectTransparency.types false in
theorem value_post (hT : BlocksAre m T) : θ_run defs (onTc (τ := τ) (main (F := Ideal))) (s₀ m ρ) (fun r =>
    Pipeline.FramePost cfgs (valueDats m T) 0 (V m) r ∧ r.2.sem = fun _ => 0) :=
  Pipeline.θ_run_frame (Q' := _) cfgs (valueDats m T) (0 : Fin 1) launch0 defs₀ Variants.none m ρ main
    (hbody := fun c => (value_obligation m T hT c).loose) (hshare := fun c => (valueDats m T 0 c).share_full fun _ => rfl)
    (howed := fun _ _ => rfl) (V := V m) (hmain := hmain m Variants.none) (hA := valueDats_A m T) (hΦ := fun _ _ => rfl)

/-- The output array at the end: `T`. -/
theorem value_arr (c : Dev nD) : (valueDats m T 0 c).arrAt 3 cfg0.N = T c := by
  refine (valueDats m T 0 c).arrAt_eq_of_covers 3 _ (by decide +kernel) fun t hf y => ?_
  blk_simp
  rw [valueDats_after3]
  refine congrArg (T c) ?_
  unfold tileIx
  blk_ext [index3]

/-- The run: the output ends at `T`, the arguments unchanged. -/
theorem value_run (hT : BlocksAre m T) : θ_run defs (onTc (τ := τ) (main (F := Ideal))) ⟨m, fun _ => 0, ρ⟩ (fun r => ∀ c : Dev nD,
      r.2.mem ((c.tc : Thread nD τ).loc main_v44) = T c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).1 3).trans (value_arr m T c),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c)⟩)
    (value_post m ρ T hT)

end Cert.FoxIdeal.Hand
-- ==== Proof.FoxEnd.lean ====
module

public import proofs.«01_k».proof.Defs
public import proofs.«01_k».proof.Proof.FoxBlocks
public import proofs.«01_k».proof.Proof.FoxOut
public import proofs.«01_k».proof.Proof.FoxValue

@[expose] public section

set_option maxRecDepth 16384

noncomputable section

namespace Cert.FoxIdeal.Hand

open Cert.FoxIdeal Cert.FoxIdeal.Gen Cert.FoxMath Idealize.ShloMosaic Idealize.ShloMosaic.TcCoe Idealize.ShloMosaic.Tactic Idealize.SL.Sem
open Cert.FoxRefIdeal.Hand (realLogit logit causal top logit_real result_at)

/-! ## The precondition: every query, key and gate is a real number -/

theorem pre_facts : Cert.Pre_finite_qkc.Facts := ⟨by decide, by decide⟩

theorem inf_bits : Ideal.ofBits FTy.f32 0x7F800000#32 = ⊤ := by
  simp [Ideal.ofBits, Ideal.ieee]

/-- A number whose absolute value is less than infinity is real. -/
theorem real_of_abs_lt (x : EReal) (h : Ideal.cmp .olt (max x (-x)) (Ideal.ofBits FTy.f32 0x7F800000#32) = 1#1) : x = (x.toReal : EReal) := by
  rw [inf_bits] at h
  have hlt : max x (-x) < ⊤ := by
    by_contra hn
    unfold Ideal.cmp at h
    simp [hn] at h
  refine (EReal.coe_toReal ?_ ?_).symm
  · rintro rfl; simp at hlt
  · rintro rfl; simp at hlt

variable (m : (ℓ : Loc nD τ sig) → Buf (Elt Ideal) ℓ)

theorem pre_real [Cert.Pre_finite_qkc.Facts] (hm : Cert.Pre_FoxIdeal_finite_qkc m) (c : Dev nD) :
    (∀ i, (m ((c : Thread nD τ).loc main_arg0) : S4x8192x8x64.Idx → EReal) i = ((((m ((c : Thread nD τ).loc main_arg0) : S4x8192x8x64.Idx → EReal) i).toReal : ℝ) : EReal))
    ∧ (∀ i, (m ((c : Thread nD τ).loc main_arg1) : S4x8192x8x64.Idx → EReal) i = ((((m ((c : Thread nD τ).loc main_arg1) : S4x8192x8x64.Idx → EReal) i).toReal : ℝ) : EReal))
    ∧ (∀ i, (m ((c : Thread nD τ).loc main_arg3) : S4x8x8192.Idx → EReal) i = ((((m ((c : Thread nD τ).loc main_arg3) : S4x8x8192.Idx → EReal) i).toReal : ℝ) : EReal)) := by
  obtain ⟨h0, h1, h3⟩ := hm c
  exact ⟨fun i => real_of_abs_lt _ (congrFun h0 i), fun i => real_of_abs_lt _ (congrFun h1 i), fun i => real_of_abs_lt _ (congrFun h3 i)⟩

/-! ## The blocks are the reference's -/

section
variable (q k v : FVec Ideal S4x8192x8x64 .f32) (cs : FVec Ideal S4x8x8192 .f32)
  (Q K : S4x8192x8x64.Idx → ℝ) (C : S4x8x8192.Idx → ℝ) (hq : ∀ i, q i = (Q i : EReal)) (hk : ∀ i, k i = (K i : EReal)) (hc : ∀ i, cs i = (C i : EReal))
  (c : Dev nD) (t : Fin cfg0.N)
  (e0 : m ((c : Thread nD τ).loc main_arg0) = q) (e1 : m ((c : Thread nD τ).loc main_arg1) = k) (e2 : m ((c : Thread nD τ).loc main_arg2) = v)
  (e3 : m ((c : Thread nD τ).loc main_arg3) = cs)

include hq hk hc e0 e1 e3 in
/-- A key's score in the kernel: the logit in base two. -/
theorem score_at (h : Fin 4) (x : Fin 512) (j : ℕ) :
    zOf (iblk m c 0 t) (qOf (iblk m c 1 t) h) h x j = ((log2e * realLogit Q K C (batchOf t) (headOf t h) (queryOf t x) (keyOf j) : ℝ) : EReal) := by
  unfold zOf
  rw [← wide_sum q k cs (batchOf t) (headOf t h) Q K C hq hk hc (keyOf j) (queryOf t x)]
  refine Finset.sum_congr rfl fun d _ => ?_
  rw [keys_at m c t h j d, e1, e3]
  refine congrArg _ ?_
  exact (queries_at m c t h d x).trans (by rw [e0, e3])

include hq hk hc e0 e1 e2 e3 in
theorem block_at (h7 : scM0_0.IsWhole) (h8 : scM0_1.IsWhole) (f : (ms0_3 t).view.ty.Contents (Elt Ideal))
    (g7 : scM0_0.view.ty.Contents (Elt Ideal)) (g8 : scM0_1.view.ty.Contents (Elt Ideal)) (h : Fin 4) (d : Fin 64) (x : Fin 512) (r : Fin 256)
    (hr : r.val = 64 * h.val + d.val) :
    (ms0_3 t).view.read (Elt Ideal) ((ms0_3 t).view.writes (Elt Ideal) f
      (bodyRun c (grid0.coords t) (ms0_0 t) (hs0_0 t) (ms0_1 t) (hs0_1 t) (ms0_2 t) (hs0_2 t) (ms0_3 t) (hs0_3 t) scM0_0 h7 scM0_1 h8
        (iblk m c 0 t) (iblk m c 1 t) (iblk m c 2 t) g7 g8).1) (ix3 0 r x)
      = ∑ j : Fin 8192, v (ix4 (batchOf t) j (headOf t h) d)
        * Ideal.div (Ideal.exp (causal q k cs (batchOf t) (headOf t h) (queryOf t x) j - top q k cs (batchOf t) (headOf t h) (queryOf t x)))
          (0 + ∑ j : Fin 8192, Ideal.exp (causal q k cs (batchOf t) (headOf t h) (queryOf t x) j - top q k cs (batchOf t) (headOf t h) (queryOf t x))) := by
  have hz := score_at m q k cs Q K C hq hk hc c t e0 e1 e3
  have hF : ∀ h, Fin4 (iblk m c 0 t) (qOf (iblk m c 1 t) h) h := fun h x j => by
    rw [hz]; exact ⟨EReal.coe_ne_top _, EReal.coe_ne_bot _⟩
  obtain ⟨mx, S⟩ := accs_state c (grid0.coords t) (ms0_0 t) (hs0_0 t) (ms0_1 t) (hs0_1 t) (ms0_2 t) (hs0_2 t) (ms0_3 t) (hs0_3 t) scM0_0 h7 scM0_1 h8
    (iblk m c 0 t) (iblk m c 1 t) (iblk m c 2 t) g8 hF h x
  rw [out_read c (grid0.coords t) (ms0_0 t) (hs0_0 t) (ms0_1 t) (hs0_1 t) (ms0_2 t) (hs0_2 t) (ms0_3 t) (hs0_3 t) scM0_0 h7 scM0_1 h8
    (iblk m c 0 t) (iblk m c 1 t) (iblk m c 2 t) g8 g7 f h d x r hr]
  have ht : ((grid0.coords t) 2).val < 16 := ((grid0.coords t) 2).isLt
  have hx := x.isLt
  have key : ∀ j : Fin 8192, keyOf j.val = j := fun j => Fin.ext (Nat.mod_eq_of_lt j.isLt)
  have quot := S.quotient (N := 8192) (by decide) (queryOf t x).val (by show 512 * _ + x.val < _; omega) (by omega)
    (fun j => realLogit Q K C (batchOf t) (headOf t h) (queryOf t x) (keyOf j))
    (fun j => by
      show zCausal (iblk m c 0 t) (qOf (iblk m c 1 t) h) h (grid0.coords t 2).val x j = _
      unfold zCausal
      rw [hz]
      rfl)
    (fun j => (values_at m c t h 64 j).trans (valueWide_one _ _ _ _))
    (causal q k cs (batchOf t) (headOf t h) (queryOf t x))
    (fun j => by
      unfold causal
      rw [logit_real q k cs Q K C hq hk hc]
      show _ = if j.val ≤ (queryOf t x).val then _ else _
      rw [key j])
    (top q k cs (batchOf t) (headOf t h) (queryOf t x)) rfl (d.castLE (by decide))
  refine quot.trans (Finset.sum_congr rfl fun j _ => ?_)
  have hv := (values_at m c t h (d.castLE (by decide)) j.val).trans ((congrArg (fun z => valueWide z _) e2).trans (valueWide_low v _ _ _ d _ rfl))
  rw [key j] at hv
  exact congrArg (fun z : EReal => z * _) hv
end

/-- The reference's result on the kernel's arguments. -/
def refResult (c : Dev nD) : Vec Ideal S4x512x8192 .f32 :=
  Cert.FoxRefIdeal.Read.val_main_v30 (F := Ideal) (m ((c : Thread nD τ).loc main_arg0)) (m ((c : Thread nD τ).loc main_arg1)) (m ((c : Thread nD τ).loc main_arg2))
    (m ((c : Thread nD τ).loc main_arg3))

theorem block_ref [Cert.Pre_finite_qkc.Facts] (hm : Cert.Pre_FoxIdeal_finite_qkc m) (c : Dev nD) (t : Fin cfg0.N)
    (h7 : scM0_0.IsWhole) (h8 : scM0_1.IsWhole) (f : (ms0_3 t).view.ty.Contents (Elt Ideal))
    (g7 : scM0_0.view.ty.Contents (Elt Ideal)) (g8 : scM0_1.view.ty.Contents (Elt Ideal)) (r : Fin 256) (x : Fin 512) (r' : Fin 512)
    (hr : r'.val = 256 * (grid0.coords t 1).val + r.val) :
    (ms0_3 t).view.read (Elt Ideal) ((ms0_3 t).view.writes (Elt Ideal) f
      (bodyRun c (grid0.coords t) (ms0_0 t) (hs0_0 t) (ms0_1 t) (hs0_1 t) (ms0_2 t) (hs0_2 t) (ms0_3 t) (hs0_3 t) scM0_0 h7 scM0_1 h8
        (iblk m c 0 t) (iblk m c 1 t) (iblk m c 2 t) g7 g8).1) (ix3 0 r x) = refResult m c (ix3 (batchOf t) r' (queryOf t x)) := by
  obtain ⟨hq, hk, hc⟩ := pre_real m hm c
  have hlt := r.isLt
  have e := block_at m _ _ (m ((c : Thread nD τ).loc main_arg2)) _ _ _ _ hq hk hc c t rfl rfl rfl rfl h7 h8 f g7 g8
    ⟨r.val / 64, by omega⟩ ⟨r.val % 64, by omega⟩ x r (by show r.val = 64 * (r.val / 64) + r.val % 64; omega)
  have e' := result_at (m ((c : Thread nD τ).loc main_arg0)) (m ((c : Thread nD τ).loc main_arg1)) (m ((c : Thread nD τ).loc main_arg2))
    (m ((c : Thread nD τ).loc main_arg3)) (batchOf t) (headOf t ⟨r.val / 64, by omega⟩) ⟨r.val % 64, by omega⟩ (queryOf t x) r'
    (by show r'.val = 64 * (4 * (grid0.coords t 1).val + r.val / 64) + r.val % 64; omega)
  exact e.trans e'.symm

theorem blocks_are [Cert.Pre_finite_qkc.Facts] (hm : Cert.Pre_FoxIdeal_finite_qkc m) : BlocksAre m (refResult m) := by
  intro c t h7 h8 f g7 g8
  refine funext fun (y : S1x256x512.Idx) => ?_
  have hy : y = ix3 0 (y 1) (y 2) := by
    funext a
    fin_cases a
    · exact Subsingleton.elim (α := Fin 1) _ _
    · rfl
    · rfl
  have e := block_ref m hm c t h7 h8 f g7 g8 (y 1) (y 2) (tileIx t y 1) rfl
  exact (congrArg _ hy).trans e

end Cert.FoxIdeal.Hand

end
-- ==== Proof.TailMath.lean ====
/- What the layer does after its mixers, for one token, over the extended reals: the gated linear unit over the
   scan's output, the two normalised halves and their projection, the feed-forward part, and the last norm. -/
module

public import Idealize.ShloMosaic.Lib.Pointwise

@[expose] public section

noncomputable section

namespace Cert.TailMath

open Idealize.ShloMosaic

/-- The tanh form of the gelu. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- The reciprocal root mean square of a vector, `n` being its length as a float. -/
def scale {k : ℕ} (n : EReal) (v : Fin k → EReal) : EReal :=
  Ideal.rsqrt (Ideal.div (∑ j, v j * v j) n + Ideal.ofBits .f32 0x358637BD#32)

/-- A vector over its root mean square, times a gain. -/
def rms {k : ℕ} (n : EReal) (v g : Fin k → EReal) (j : Fin k) : EReal := v j * scale n v * g j

/-- A vector's length as a float. -/
def n512 : EReal := Ideal.ofBits .f32 0x44000000#32
def n1024 : EReal := Ideal.ofBits .f32 0x44800000#32

/-- A column of the first and of the second half. -/
def lo (j : Fin 512) : Fin 1024 := ⟨j.val, by have := j.isLt; omega⟩
def hi (j : Fin 512) : Fin 1024 := ⟨512 + j.val, by have := j.isLt; omega⟩

/-- A vector times a matrix. -/
def vecMat {k n : ℕ} (v : Fin k → EReal) (W : Fin k → Fin n → EReal) (j : Fin n) : EReal := ∑ i, v i * W i j

/-- The gated linear unit over the scan's output. -/
def glu (y : Fin 512 → EReal) (W : Fin 512 → Fin 1024 → EReal) (j : Fin 512) : EReal :=
  vecMat (fun i => gelu (y i)) W (lo j) * Ideal.logistic (vecMat (fun i => gelu (y i)) W (hi j))

/-- The feed-forward part, added to its input `h`, from `h` normalised. -/
def ffn (h hn : Fin 1024 → EReal) (Wg Wu : Fin 1024 → Fin 2816 → EReal) (Wd : Fin 2816 → Fin 1024 → EReal) (j : Fin 1024) : EReal :=
  h j + vecMat (fun i => vecMat hn Wg i * Ideal.logistic (vecMat hn Wg i) * vecMat hn Wu i) Wd j

/-- The weights and gains. -/
structure Weights where
  wGlu : Fin 512 → Fin 1024 → EReal
  gAtt : Fin 512 → EReal
  gSsm : Fin 512 → EReal
  wOut : Fin 1024 → Fin 1024 → EReal
  g2 : Fin 1024 → EReal
  wGate : Fin 1024 → Fin 2816 → EReal
  wUp : Fin 1024 → Fin 2816 → EReal
  wDown : Fin 2816 → Fin 1024 → EReal
  gF : Fin 1024 → EReal

/-- The token after its mixers: the attention's half and the scan's half, each projected, beside the residual. -/
def mixed (w : Weights) (x : Fin 1024 → EReal) (a y : Fin 512 → EReal) (j : Fin 1024) : EReal :=
  x j + vecMat (rms n512 a w.gAtt) (fun i => w.wOut (lo i)) j + vecMat (rms n512 (glu y w.wGlu) w.gSsm) (fun i => w.wOut (hi i)) j

/-- The layer's result for the token. -/
def result (w : Weights) (x : Fin 1024 → EReal) (a y : Fin 512 → EReal) : Fin 1024 → EReal :=
  rms n1024 (ffn (mixed w x a y) (rms n1024 (mixed w x a y) w.g2) w.wGate w.wUp w.wDown) w.gF

/-- The two halves side by side, times a matrix, are the halves times its upper and lower rows. -/
theorem vecMat_halves (v : Fin 1024 → EReal) (W : Fin 1024 → Fin 1024 → EReal) (j : Fin 1024) :
    vecMat v W j = vecMat (fun i => v (lo i)) (fun i => W (lo i)) j + vecMat (fun i => v (hi i)) (fun i => W (hi i)) j :=
  Fin.sum_univ_add (a := 512) (b := 512) fun i : Fin 1024 => v i * W i j

theorem one_bits : Ideal.ofBits FTy.f32 0x3F800000#32 = 1 := by
  simp [Ideal.ofBits, Ideal.ieee, -EReal.coe_mul]
  norm_num

end Cert.TailMath

end
-- ==== Proof.TailBody.lean ====
module

public import proofs.«01_k».proof.Proof.Gen.TailIdeal.Frame
public import proofs.«01_k».proof.Proof.TailMath
public import Idealize.ShloMosaic.Lib.Pointwise

@[expose] public section

set_option maxRecDepth 16384

noncomputable section

namespace Cert.TailIdeal.Hand

open Cert.TailIdeal Cert.TailIdeal.Gen Cert.TailMath Idealize.ShloMosaic Idealize.ShloMosaic.TcCoe Idealize.ShloMosaic.Tactic

/-! ## The body's stages on a block of 512 tokens, and what each computes -/

/-- A block of rows, each over its root mean square, times a row of gains. -/
def rmsRows (v : FVec Ideal S512x1024 .f32) (g : FVec Ideal S1x1024 .f32) : FVec Ideal S512x1024 .f32 :=
  mulf (mulf v (broadcastTo S512x1024 (rsqrt (addf (divf
      (shapeCast S512x1 (multiReduction .add [1] S512 (mulf v v) 0x00000000#32 reduces_S512x1024_S512 (.inl rfl) rfl) shapeCasts_S512_S512x1)
      (broadcast S512x1 (Scalar.ofBits .f32 0x44800000#32 : Ideal .f32))) (broadcast S512x1 (Scalar.ofBits .f32 0x358637BD#32 : Ideal .f32)))) broadcasts_S512x1_S512x1024))
    (broadcastTo S512x1024 g broadcasts_S1x1024_S512x1024)

def rmsHalf (v : FVec Ideal S512x512 .f32) (g : FVec Ideal S1x512 .f32) : FVec Ideal S512x512 .f32 :=
  mulf (mulf v (broadcastTo S512x512 (rsqrt (addf (divf
      (shapeCast S512x1 (multiReduction .add [1] S512 (mulf v v) 0x00000000#32 reduces_S512x512_S512 (.inl rfl) rfl) shapeCasts_S512_S512x1)
      (broadcast S512x1 (Scalar.ofBits .f32 0x44000000#32 : Ideal .f32))) (broadcast S512x1 (Scalar.ofBits .f32 0x358637BD#32 : Ideal .f32)))) broadcasts_S512x1_S512x512))
    (broadcastTo S512x512 g broadcasts_S1x512_S512x512)

/-- The same for a transposed block, whose columns are the tokens. -/
def rmsCols (v : FVec Ideal S512x512 .f32) (g : FVec Ideal S512x1 .f32) : FVec Ideal S512x512 .f32 :=
  mulf (mulf v (broadcastTo S512x512 (rsqrt (addf (divf
      (shapeCast S1x512 (multiReduction .add [0] S512 (mulf v v) 0x00000000#32 reduces_S512x512_S512_2 (.inl rfl) rfl) shapeCasts_S512_S1x512)
      (broadcast S1x512 (Scalar.ofBits .f32 0x44000000#32 : Ideal .f32))) (broadcast S1x512 (Scalar.ofBits .f32 0x358637BD#32 : Ideal .f32)))) broadcasts_S1x512_S512x512))
    (broadcastTo S512x512 g broadcasts_S512x1_S512x512)

/-- The scan's output gated. -/
def gluRows (y : FVec Ideal S512x512 .f32) (w : FVec Ideal S512x1024 .bf16) : FVec Ideal S512x512 .f32 :=
  let g : FVec Ideal S512x512 .bf16 := truncf .bf16 (mulf y (mulf (broadcast S512x512 (Scalar.ofBits .f32 0x3F000000#32 : Ideal .f32))
    (addf (broadcast S512x512 (Scalar.ofBits .f32 0x3F800000#32 : Ideal .f32)) (tanh (mulf (broadcast S512x512 (Scalar.ofBits .f32 0x3F4C422A#32 : Ideal .f32))
      (addf y (mulf (broadcast S512x512 (Scalar.ofBits .f32 0x3D372713#32 : Ideal .f32)) (mulf (mulf y y) y)))))))) bitsLt_bf16_f32
  let m : FVec Ideal S512x1024 .f32 := matmul dot_S512x512_S512x1024_S512x1024_1_0_0_1_n_n none g w (constant S512x1024 .f32 0x00000000#32)
  mulf (extractStridedSlice S512x512 ![0, 0] m slices_S512x1024_o0_0_S512x512)
    (logistic (extractStridedSlice S512x512 ![0, 512] m slices_S512x1024_o0_512_S512x512))

/-- The residual and the two projected halves. -/
def mixRows (x : FVec Ideal S512x1024 .f32) (a s : FVec Ideal S512x512 .f32) (wa ws : FVec Ideal S512x1024 .bf16) : FVec Ideal S512x1024 .f32 :=
  addf (addf x (matmul dot_S512x512_S512x1024_S512x1024_0_0_1_1_n_n none (truncf .bf16 a bitsLt_bf16_f32 : FVec Ideal S512x512 .bf16) wa (constant S512x1024 .f32 0x00000000#32)))
    (matmul dot_S512x512_S512x1024_S512x1024_1_0_0_1_n_n none (truncf .bf16 s bitsLt_bf16_f32 : FVec Ideal S512x512 .bf16) ws (constant S512x1024 .f32 0x00000000#32))

/-- The feed-forward part. -/
def ffnRows (h hn : FVec Ideal S512x1024 .f32) (wg wu : FVec Ideal S1024x2816 .bf16) (wd : FVec Ideal S2816x1024 .bf16) : FVec Ideal S512x1024 .f32 :=
  let b : FVec Ideal S512x1024 .bf16 := truncf .bf16 hn bitsLt_bf16_f32
  let g : FVec Ideal S512x2816 .f32 := matmul dot_S512x1024_S1024x2816_S512x2816_1_0_0_1_n_n none b wg (constant S512x2816 .f32 0x00000000#32)
  let u : FVec Ideal S512x2816 .f32 := matmul dot_S512x1024_S1024x2816_S512x2816_1_0_0_1_n_n none b wu (constant S512x2816 .f32 0x00000000#32)
  addf h (matmul dot_S512x2816_S2816x1024_S512x1024_1_0_0_1_n_n none (truncf .bf16 (mulf (mulf g (logistic g)) u) bitsLt_bf16_f32 : FVec Ideal S512x2816 .bf16)
    wd (constant S512x1024 .f32 0x00000000#32))

theorem rmsRows_at (v : FVec Ideal S512x1024 .f32) (g : FVec Ideal S1x1024 .f32) (r : Fin 512) (j : Fin 1024) :
    rmsRows v g (ix2 r j) = rms n1024 (fun k => v (ix2 r k)) (fun k => g (ix2 0 k)) j := by
  unfold rmsRows rms scale n1024
  pointwise

theorem rmsHalf_at (v : FVec Ideal S512x512 .f32) (g : FVec Ideal S1x512 .f32) (r : Fin 512) (j : Fin 512) :
    rmsHalf v g (ix2 r j) = rms n512 (fun k => v (ix2 r k)) (fun k => g (ix2 0 k)) j := by
  unfold rmsHalf rms scale n512
  pointwise

theorem rmsCols_at (v : FVec Ideal S512x512 .f32) (g : FVec Ideal S512x1 .f32) (r : Fin 512) (j : Fin 512) :
    rmsCols v g (ix2 j r) = rms n512 (fun k => v (ix2 k r)) (fun k => g (ix2 k 0)) j := by
  unfold rmsCols rms scale n512
  pointwise

theorem gluRows_at (y : FVec Ideal S512x512 .f32) (w : FVec Ideal S512x1024 .bf16) (r : Fin 512) (j : Fin 512) :
    gluRows y w (ix2 r j) = glu (fun k => y (ix2 r k)) (fun k i => w (ix2 k i)) j := by
  unfold gluRows glu vecMat gelu lo hi
  pointwise

theorem mixRows_at (x : FVec Ideal S512x1024 .f32) (a s : FVec Ideal S512x512 .f32) (wa ws : FVec Ideal S512x1024 .bf16) (r : Fin 512) (j : Fin 1024) :
    mixRows x a s wa ws (ix2 r j) = x (ix2 r j) + vecMat (fun k => a (ix2 k r)) (fun k i => wa (ix2 k i)) j
      + vecMat (fun k => s (ix2 r k)) (fun k i => ws (ix2 k i)) j := by
  unfold mixRows vecMat
  pointwise

theorem ffnRows_at (h hn : FVec Ideal S512x1024 .f32) (wg wu : FVec Ideal S1024x2816 .bf16) (wd : FVec Ideal S2816x1024 .bf16) (r : Fin 512) (j : Fin 1024) :
    ffnRows h hn wg wu wd (ix2 r j) = ffn (fun k => h (ix2 r k)) (fun k => hn (ix2 r k)) (fun k i => wg (ix2 k i)) (fun k i => wu (ix2 k i)) (fun k i => wd (ix2 k i)) j := by
  unfold ffnRows ffn vecMat
  pointwise

end Cert.TailIdeal.Hand

end
-- ==== Proof.TailBlock.lean ====
module

public import proofs.«01_k».proof.Proof.TailBody
public import Idealize.ShloMosaic.Lib.Pipeline.Value
public import Idealize.ShloMosaic.Lib.Pipeline.ValueKit.Basic
public import Idealize.ShloMosaic.Lib.Pipeline.ValueKit.Tiles

@[expose] public section

set_option maxRecDepth 16384

noncomputable section

namespace Cert.TailIdeal.Hand

open Cert.TailIdeal Cert.TailIdeal.Gen Cert.TailMath Idealize.ShloMosaic Idealize.ShloMosaic.TcCoe Idealize.ShloMosaic.Tactic

/-! ## The block that the body writes out -/

/-- The four slabs of the scan's output side by side. -/
def slabs (x : Vec Ideal S4x512x128 .f32) : FVec Ideal S512x512 .f32 :=
  concatenate S512x512 1 [⟨S512x128, shapeCast S512x128 (View.ld x r0_1) shapeCasts_S1x512x128_S512x128⟩,
    ⟨S512x128, shapeCast S512x128 (View.ld x r0_2) shapeCasts_S1x512x128_S512x128⟩,
    ⟨S512x128, shapeCast S512x128 (View.ld x r0_3) shapeCasts_S1x512x128_S512x128⟩,
    ⟨S512x128, shapeCast S512x128 (View.ld x r0_4) shapeCasts_S1x512x128_S512x128⟩] concatenates_S512x128_S512x128_S512x128_S512x128_S512x512_d1

/-- One slab, loaded: the block's entries at that slab. -/
theorem slab_at (x : Vec Ideal S4x512x128 .f32) (s : Fin 4) (off : Fin 3 → ℕ) (h0 : off 0 = s.val) (h1 : off 1 = 0) (h2 : off 2 = 0) (inb)
    (r : Fin 512) (l : Fin 128) :
    View.ld x (Rect.unit (s := S4x512x128) off S1x512x128.size inb) (ix3 0 r l) = x (ix3 s r l) :=
  View.ld_unit_apply_of x off _ inb _ _ fun a => by
    fin_cases a
    · exact h0.symm
    · exact (show r.val = off 1 + r.val by omega)
    · exact (show l.val = off 2 + l.val by omega)

theorem slabs_at (x : Vec Ideal S4x512x128 .f32) (y : Fin 512 → EReal) (r : Fin 512)
    (hy : ∀ (s : Fin 4) (l : Fin 128), x (ix3 s r l) = y ⟨128 * s.val + l.val, by have := s.isLt; have := l.isLt; omega⟩) (k : Fin 512) :
    slabs x (ix2 r k) = y k := by
  have e1 : ∀ l : Fin 128, View.ld x r0_1 (ix3 0 r l) = y _ := fun l => (slab_at x 0 _ rfl rfl rfl _ r l).trans (hy 0 l)
  have e2 : ∀ l : Fin 128, View.ld x r0_2 (ix3 0 r l) = y _ := fun l => (slab_at x 1 _ rfl rfl rfl _ r l).trans (hy 1 l)
  have e3 : ∀ l : Fin 128, View.ld x r0_3 (ix3 0 r l) = y _ := fun l => (slab_at x 2 _ rfl rfl rfl _ r l).trans (hy 2 l)
  have e4 : ∀ l : Fin 128, View.ld x r0_4 (ix3 0 r l) = y _ := fun l => (slab_at x 3 _ rfl rfl rfl _ r l).trans (hy 3 l)
  unfold slabs
  generalize View.ld x r0_1 = x1 at e1 ⊢
  generalize View.ld x r0_2 = x2 at e2 ⊢
  generalize View.ld x r0_3 = x3 at e3 ⊢
  generalize View.ld x r0_4 = x4 at e4 ⊢
  have hk := k.isLt
  pointwise
  split_ifs <;> first
    | (refine (e1 _).trans (congrArg y (Fin.ext ?_)); simp; try omega)
    | (refine (e2 _).trans (congrArg y (Fin.ext ?_)); simp; try omega)
    | (refine (e3 _).trans (congrArg y (Fin.ext ?_)); simp; try omega)
    | (refine (e4 _).trans (congrArg y (Fin.ext ?_)); simp; try omega)

/-- The block after the mixers. -/
def mixBlock (x0 : Vec Ideal S512x1024 .f32) (x1 : Vec Ideal S1x512x512 .f32) (x2 : Vec Ideal S4x512x128 .f32) (x3 : Vec Ideal S512x1024 .bf16)
    (x4 : Vec Ideal S512x1 .f32) (x5 : Vec Ideal S1x512 .f32) (x6 x7 : Vec Ideal S512x1024 .bf16) : FVec Ideal S512x1024 .f32 :=
  mixRows x0 (rmsCols (shapeCast S512x512 x1 shapeCasts_S1x512x512_S512x512) x4) (rmsHalf (gluRows (slabs x2) x3) x5) x6 x7

theorem out_eq (x0 : Vec Ideal S512x1024 .f32) (x1 : Vec Ideal S1x512x512 .f32) (x2 : Vec Ideal S4x512x128 .f32) (x3 : Vec Ideal S512x1024 .bf16)
    (x4 : Vec Ideal S512x1 .f32) (x5 : Vec Ideal S1x512 .f32) (x6 x7 : Vec Ideal S512x1024 .bf16) (x8 : Vec Ideal S1x1024 .f32)
    (x9 x10 : Vec Ideal S1024x2816 .bf16) (x11 : Vec Ideal S2816x1024 .bf16) (x12 : Vec Ideal S1x1024 .f32) :
    out0_13 x0 x1 x2 x3 x4 x5 x6 x7 x8 x9 x10 x11 x12
      = rmsRows (ffnRows (mixBlock x0 x1 x2 x3 x4 x5 x6 x7) (rmsRows (mixBlock x0 x1 x2 x3 x4 x5 x6 x7) x8) x9 x10 x11) x12 := by
  unfold out0_13 k0_pay12 k0_pay11 k0_pay10 k0_pay9
  rw [View.canon_cons_unit_lit _ _ _ (by decide)]
  rw [show View.ld x0 r0_0 = x0 from View.ld_unit_lit _ _ (by decide), show View.ld x1 r0_6 = x1 from View.ld_unit_lit _ _ (by decide),
    show View.ld x3 r0_0 = x3 from View.ld_unit_lit _ _ (by decide), show View.ld x4 r0_7 = x4 from View.ld_unit_lit _ _ (by decide),
    show View.ld x5 r0_5 = x5 from View.ld_unit_lit _ _ (by decide), show View.ld x6 r0_0 = x6 from View.ld_unit_lit _ _ (by decide),
    show View.ld x7 r0_0 = x7 from View.ld_unit_lit _ _ (by decide), show View.ld x8 r0_8 = x8 from View.ld_unit_lit _ _ (by decide),
    show View.ld x9 r0_9 = x9 from View.ld_unit_lit _ _ (by decide), show View.ld x10 r0_9 = x10 from View.ld_unit_lit _ _ (by decide),
    show View.ld x11 r0_10 = x11 from View.ld_unit_lit _ _ (by decide), show View.ld x12 r0_8 = x12 from View.ld_unit_lit _ _ (by decide)]
  have p1 : k0_pay1 x0 = x0 := shapeCast_self _ _
  have p3 : k0_pay3 x5 = x5 := shapeCast_self _ _
  have p6 : k0_pay6 x8 = x8 := shapeCast_self _ _
  have p2 : k0_pay2 (View.ld x2 r0_1) (View.ld x2 r0_2) (View.ld x2 r0_3) (View.ld x2 r0_4) x3 = gluRows (slabs x2) x3 := by
    unfold k0_pay2 gluRows slabs
    dsimp only
    rw [shapeCast_self]
  have p5 : ∀ (v : FVec Ideal S512x512 .f32), k0_pay5 x0 v x5 (mulf v v) x1 x4 x6 x7
      = mixRows x0 (rmsCols (shapeCast S512x512 x1 shapeCasts_S1x512x512_S512x512) x4) (rmsHalf v x5) x6 x7 := fun v => by
    unfold k0_pay5 mixRows rmsCols rmsHalf
    dsimp only
    simp only [shapeCast_self]
  have p8 : ∀ (v : FVec Ideal S512x1024 .f32), k0_pay8 v x8 (mulf v v) x9 x10 x11 x12 = rmsRows (ffnRows v (rmsRows v x8) x9 x10 x11) x12 := fun v => by
    unfold k0_pay8 ffnRows rmsRows
    dsimp only
    simp only [shapeCast_self]
  rw [p1, p3, p6]
  unfold k0_pay7 k0_pay4
  rw [p2, p5, p8]
  rfl

/-- One token of the block. -/
theorem out_at (w : Weights) (x : Fin 1024 → EReal) (a y : Fin 512 → EReal) (r : Fin 512) (j : Fin 1024)
    (x0 : Vec Ideal S512x1024 .f32) (x1 : Vec Ideal S1x512x512 .f32) (x2 : Vec Ideal S4x512x128 .f32) (x3 : Vec Ideal S512x1024 .bf16)
    (x4 : Vec Ideal S512x1 .f32) (x5 : Vec Ideal S1x512 .f32) (x6 x7 : Vec Ideal S512x1024 .bf16) (x8 : Vec Ideal S1x1024 .f32)
    (x9 x10 : Vec Ideal S1024x2816 .bf16) (x11 : Vec Ideal S2816x1024 .bf16) (x12 : Vec Ideal S1x1024 .f32)
    (h0 : ∀ k, x0 (ix2 r k) = x k) (h1 : ∀ k, x1 (ix3 0 k r) = a k)
    (h2 : ∀ (s : Fin 4) (l : Fin 128), x2 (ix3 s r l) = y ⟨128 * s.val + l.val, by have := s.isLt; have := l.isLt; omega⟩)
    (h3 : ∀ k i, x3 (ix2 k i) = w.wGlu k i) (h4 : ∀ k, x4 (ix2 k 0) = w.gAtt k) (h5 : ∀ k, x5 (ix2 0 k) = w.gSsm k)
    (h6 : ∀ k i, x6 (ix2 k i) = w.wOut (lo k) i) (h7 : ∀ k i, x7 (ix2 k i) = w.wOut (hi k) i) (h8 : ∀ k, x8 (ix2 0 k) = w.g2 k)
    (h9 : ∀ k i, x9 (ix2 k i) = w.wGate k i) (h10 : ∀ k i, x10 (ix2 k i) = w.wUp k i) (h11 : ∀ k i, x11 (ix2 k i) = w.wDown k i)
    (h12 : ∀ k, x12 (ix2 0 k) = w.gF k) :
    out0_13 x0 x1 x2 x3 x4 x5 x6 x7 x8 x9 x10 x11 x12 (ix2 r j) = result w x a y j := by
  have hm : ∀ i, mixBlock x0 x1 x2 x3 x4 x5 x6 x7 (ix2 r i) = mixed w x a y i := fun i => by
    have hc : ∀ k, shapeCast S512x512 x1 shapeCasts_S1x512x512_S512x512 (ix2 k r) = a k := fun k => by
      rw [← h1]
      pointwise
    unfold mixBlock mixed
    rw [mixRows_at, h0]
    simp only [rmsCols_at, rmsHalf_at, gluRows_at, slabs_at x2 y r h2, hc, h3, h4, h5, h6, h7]
  rw [out_eq, rmsRows_at]
  simp only [ffnRows_at, rmsRows_at, hm, h8, h9, h10, h11, h12]
  rfl

end Cert.TailIdeal.Hand

end
-- ==== Proof.TailBlocks.lean ====
module

public import proofs.«01_k».proof.Proof.Gen.TailIdeal.Value
public import proofs.«01_k».proof.Proof.TailMath
public import Idealize.ShloMosaic.Lib.Pointwise
public import Idealize.ShloMosaic.Lib.IdealHost
public import Idealize.ShloMosaic.Lib.Pipeline.ValueKit.Geometry
public import Idealize.ShloMosaic.Lib.Claim

@[expose] public section

set_option maxRecDepth 16384

noncomputable section

namespace Cert.TailIdeal.Hand

open Cert.TailIdeal Cert.TailIdeal.Gen Cert.TailMath Idealize.ShloMosaic Idealize.ShloMosaic.TcCoe Idealize.ShloMosaic.Tactic Idealize.SL.Sem

/-! ## What the input blocks hold -/

/-- The batch and the token that a row of a grid point's blocks stands for, and the row's number among all. -/
def batchOf (t : Fin cfg0.N) : Fin 4 := ⟨(grid0.coords t 0).val, (grid0.coords t 0).isLt⟩
def tokenOf (t : Fin cfg0.N) (r : Fin 512) : Fin 8192 :=
  ⟨512 * (grid0.coords t 1).val + r.val, by have : (grid0.coords t 1).val < 16 := (grid0.coords t 1).isLt; have := r.isLt; omega⟩
def rowOf (t : Fin cfg0.N) (r : Fin 512) : Fin 32768 :=
  ⟨8192 * (batchOf t).val + (tokenOf t r).val, by have := (batchOf t).isLt; have := (tokenOf t r).isLt; omega⟩

/-- The windows' positions, from the grid point. -/
theorem index0 : ∀ t : Fin cfg0.N, win0_0.index t = ![(grid0.coords t 0).val * 16 + (grid0.coords t 1).val, 0] :=
  (by decide +kernel : ∀ t : Fin grid0.N, win0_0.index t = ![(grid0.coords t 0).val * 16 + (grid0.coords t 1).val, 0])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![0, (grid0.coords t 0).val * 16 + (grid0.coords t 1).val, 0] :=
  (by decide +kernel : ∀ t : Fin grid0.N, win0_2.index t = ![0, (grid0.coords t 0).val * 16 + (grid0.coords t 1).val, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![(grid0.coords t 0).val * 16 + (grid0.coords t 1).val, 0] :=
  (by decide +kernel : ∀ t : Fin grid0.N, win0_13.index t = ![(grid0.coords t 0).val * 16 + (grid0.coords t 1).val, 0])

variable (m : (ℓ : Loc nD τ sig) → Buf (Elt Ideal) ℓ)

/-! The arrays the host lines make of the arguments. -/

set_option maxHeartbeats 4000000 in
theorem V_x (c : Dev nD) : V m c main_v15 =
    shapeCast S32768x1024 (m ((c : Thread nD τ).loc main_arg0)) shapeCasts_S4x8192x1024_S32768x1024 := by
  unfold_abbrev_sides
  after_results <;> rfl

set_option maxHeartbeats 4000000 in
theorem V_att (c : Dev nD) : V m c main_v2 =
    transpose S4x512x8192 [0, 2, 1] (m ((c : Thread nD τ).loc main_arg1)) transposes_S4x8192x512_S4x512x8192_0_2_1 := by
  unfold_abbrev_sides
  after_results <;> rfl

set_option maxHeartbeats 4000000 in
theorem V_slabs (c : Dev nD) : V m c main_v1 =
    transpose S4x32768x128 [1, 0, 2] (shapeCast S32768x4x128 (m ((c : Thread nD τ).loc main_arg2)) shapeCasts_S4x8192x512_S32768x4x128)
      transposes_S32768x4x128_S4x32768x128_1_0_2 := by
  unfold_abbrev_sides
  after_results <;> rfl

set_option maxHeartbeats 4000000 in
theorem V_wGlu (c : Dev nD) : V m c main_v3 =
    (m ((c : Thread nD τ).loc main_arg3) : FVec Ideal S512x1024 .f32) := by
  unfold_abbrev_sides
  after_results <;> rfl

set_option maxHeartbeats 4000000 in
theorem V_gAtt (c : Dev nD) : V m c main_v4 =
    shapeCast S512x1 (m ((c : Thread nD τ).loc main_arg4)) shapeCasts_S512_S512x1 := by
  unfold_abbrev_sides
  after_results <;> rfl

set_option maxHeartbeats 4000000 in
theorem V_gSsm (c : Dev nD) : V m c main_v5 =
    shapeCast S1x512 (m ((c : Thread nD τ).loc main_arg5)) shapeCasts_S512_S1x512 := by
  unfold_abbrev_sides
  after_results <;> rfl

set_option maxHeartbeats 4000000 in
theorem V_wOutLo (c : Dev nD) : V m c main_v7 =
    (extractStridedSlice S512x1024 ![0, 0] (m ((c : Thread nD τ).loc main_arg6)) slices_S1024x1024_S512x1024_0_0 : FVec Ideal S512x1024 .f32) := by
  unfold_abbrev_sides
  after_results <;> rfl

set_option maxHeartbeats 4000000 in
theorem V_wOutHi (c : Dev nD) : V m c main_v9 =
    (extractStridedSlice S512x1024 ![512, 0] (m ((c : Thread nD τ).loc main_arg6)) slices_S1024x1024_S512x1024_512_0 : FVec Ideal S512x1024 .f32) := by
  unfold_abbrev_sides
  after_results <;> rfl

set_option maxHeartbeats 4000000 in
theorem V_g2 (c : Dev nD) : V m c main_v10 =
    shapeCast S1x1024 (m ((c : Thread nD τ).loc main_arg7)) shapeCasts_S1024_S1x1024 := by
  unfold_abbrev_sides
  after_results <;> rfl

set_option maxHeartbeats 4000000 in
theorem V_wGate (c : Dev nD) : V m c main_v11 =
    (m ((c : Thread nD τ).loc main_arg8) : FVec Ideal S1024x2816 .f32) := by
  unfold_abbrev_sides
  after_results <;> rfl

set_option maxHeartbeats 4000000 in
theorem V_wUp (c : Dev nD) : V m c main_v12 =
    (m ((c : Thread nD τ).loc main_arg9) : FVec Ideal S1024x2816 .f32) := by
  unfold_abbrev_sides
  after_results <;> rfl

set_option maxHeartbeats 4000000 in
theorem V_wDown (c : Dev nD) : V m c main_v13 =
    (m ((c : Thread nD τ).loc main_arg10) : FVec Ideal S2816x1024 .f32) := by
  unfold_abbrev_sides
  after_results <;> rfl

set_option maxHeartbeats 4000000 in
theorem V_gF (c : Dev nD) : V m c main_v14 =
    shapeCast S1x1024 (m ((c : Thread nD τ).loc main_arg11)) shapeCasts_S1024_S1x1024 := by
  unfold_abbrev_sides
  after_results <;> rfl

/-! Their entries. -/

theorem x_host (X : FVec Ideal S4x8192x1024 .f32) (b : Fin 4) (s : Fin 8192) (r : Fin 32768) (k : Fin 1024) (hr : r.val = 8192 * b.val + s.val) :
    shapeCast S32768x1024 X shapeCasts_S4x8192x1024_S32768x1024 (ix2 r k) = X (ix3 b s k) := by
  refine shapeCast_apply X _ _ _ ?_
  rw [Shape.rowMajor_val_two, Shape.rowMajor_val_three]
  show (b.val * 8192 + s.val) * 1024 + k.val = r.val * 1024 + k.val
  omega

theorem att_host (X : FVec Ideal S4x8192x512 .f32) (b : Fin 4) (s : Fin 8192) (k : Fin 512) :
    transpose S4x512x8192 [0, 2, 1] X transposes_S4x8192x512_S4x512x8192_0_2_1 (ix3 b k s) = X (ix3 b s k) := by
  pointwise

theorem slabs_host (X : FVec Ideal S4x8192x512 .f32) (b : Fin 4) (s : Fin 8192) (r : Fin 32768) (j : Fin 4) (l : Fin 128) (hr : r.val = 8192 * b.val + s.val)
    (h : 128 * j.val + l.val < 512) :
    transpose S4x32768x128 [1, 0, 2] (shapeCast S32768x4x128 X shapeCasts_S4x8192x512_S32768x4x128) transposes_S32768x4x128_S4x32768x128_1_0_2 (ix3 j r l)
      = X (ix3 b s ⟨128 * j.val + l.val, h⟩) := by
  rw [show transpose S4x32768x128 [1, 0, 2] (shapeCast S32768x4x128 X shapeCasts_S4x8192x512_S32768x4x128) transposes_S32768x4x128_S4x32768x128_1_0_2 (ix3 j r l)
    = shapeCast S32768x4x128 X shapeCasts_S4x8192x512_S32768x4x128 (ix3 r j l) by
      generalize shapeCast S32768x4x128 X shapeCasts_S4x8192x512_S32768x4x128 = Y
      pointwise]
  refine shapeCast_apply X _ _ _ ?_
  rw [Shape.rowMajor_val_three, Shape.rowMajor_val_three]
  show (b.val * 8192 + s.val) * 512 + (128 * j.val + l.val) = (r.val * 4 + j.val) * 128 + l.val
  omega

theorem col_host (X : FVec Ideal S512 .f32) (k : Fin 512) : shapeCast S512x1 X shapeCasts_S512_S512x1 (ix2 k 0) = X (ix1 k) := by
  refine shapeCast_apply X _ _ _ ?_
  rw [Shape.rowMajor_val_two, Shape.rowMajor_val_one]
  show k.val = k.val * 1 + 0
  omega

theorem row_host (X : FVec Ideal S512 .f32) (k : Fin 512) : shapeCast S1x512 X shapeCasts_S512_S1x512 (ix2 0 k) = X (ix1 k) := by
  refine shapeCast_apply X _ _ _ ?_
  rw [Shape.rowMajor_val_two, Shape.rowMajor_val_one]
  show k.val = 0 * 512 + k.val
  omega

theorem row2_host (X : FVec Ideal S1024 .f32) (k : Fin 1024) : shapeCast S1x1024 X shapeCasts_S1024_S1x1024 (ix2 0 k) = X (ix1 k) := by
  refine shapeCast_apply X _ _ _ ?_
  rw [Shape.rowMajor_val_two, Shape.rowMajor_val_one]
  show k.val = 0 * 1024 + k.val
  omega

theorem lo_host (X : FVec Ideal S1024x1024 .f32) (k : Fin 512) (i : Fin 1024) :
    extractStridedSlice S512x1024 ![0, 0] X slices_S1024x1024_S512x1024_0_0 (ix2 k i) = X (ix2 (lo k) i) := by
  unfold lo
  pointwise

theorem hi_host (X : FVec Ideal S1024x1024 .f32) (k : Fin 512) (i : Fin 1024) :
    extractStridedSlice S512x1024 ![512, 0] X slices_S1024x1024_S512x1024_512_0 (ix2 k i) = X (ix2 (hi k) i) := by
  unfold hi
  pointwise

/-! The blocks. -/

/-- A block of window 0 read where the block lies in its array. -/
theorem block0 (c : Dev nD) (t : Fin cfg0.N) (r : Fin 512) (k : Fin 1024)
    (Y : Buf (Elt Ideal) ((c : Thread nD τ).loc (Pipeline.arrRef spec0 0))) :
    (((cfg0.win 0).blk t).view.read (Elt Ideal) Y : S512x1024.Idx → EReal) (ix2 r k) = (Y : S32768x1024.Idx → EReal) (ix2 (rowOf t r) k) := by
  unfold rowOf batchOf tokenOf
  blk_simp [index0 t]
  refine congrArg Y ?_
  clear Y
  funext a
  apply Fin.ext
  fin_cases a
  · blk_simp [index0 t]
    show ((grid0.coords t 0).val * 16 + (grid0.coords t 1).val) * 512 + r.val = 8192 * (grid0.coords t 0).val + (512 * (grid0.coords t 1).val + r.val)
    omega
  · blk_simp [index0 t]
    rfl

/-- A block of window 1 read where the block lies in its array. -/
theorem block1 (c : Dev nD) (t : Fin cfg0.N) (r : Fin 512) (k : Fin 512)
    (Y : Buf (Elt Ideal) ((c : Thread nD τ).loc (Pipeline.arrRef spec0 1))) :
    (((cfg0.win 1).blk t).view.read (Elt Ideal) Y : S1x512x512.Idx → EReal) (ix3 0 k r) = (Y : S4x512x8192.Idx → EReal) (ix3 (batchOf t) k (tokenOf t r)) := by
  unfold batchOf tokenOf
  blk_simp [index1 t]
  refine congrArg Y ?_
  clear Y
  funext a
  apply Fin.ext
  fin_cases a
  · blk_simp [index1 t]
    rfl
  · blk_simp [index1 t]
    rfl
  · blk_simp [index1 t]
    show (grid0.coords t 1).val * 512 + r.val = 512 * (grid0.coords t 1).val + r.val
    omega

/-- A block of window 2 read where the block lies in its array. -/
theorem block2 (c : Dev nD) (t : Fin cfg0.N) (j : Fin 4) (r : Fin 512) (l : Fin 128)
    (Y : Buf (Elt Ideal) ((c : Thread nD τ).loc (Pipeline.arrRef spec0 2))) :
    (((cfg0.win 2).blk t).view.read (Elt Ideal) Y : S4x512x128.Idx → EReal) (ix3 j r l) = (Y : S4x32768x128.Idx → EReal) (ix3 j (rowOf t r) l) := by
  unfold rowOf batchOf tokenOf
  blk_simp [index2 t]
  refine congrArg Y ?_
  clear Y
  funext a
  apply Fin.ext
  fin_cases a
  · blk_simp [index2 t]
    rfl
  · blk_simp [index2 t]
    show ((grid0.coords t 0).val * 16 + (grid0.coords t 1).val) * 512 + r.val = 8192 * (grid0.coords t 0).val + (512 * (grid0.coords t 1).val + r.val)
    omega
  · blk_simp [index2 t]
    rfl

/-- A block of window 3 read where the block lies in its array. -/
theorem block3 (c : Dev nD) (t : Fin cfg0.N) (k : Fin 512) (i : Fin 1024)
    (Y : Buf (Elt Ideal) ((c : Thread nD τ).loc (Pipeline.arrRef spec0 3))) :
    (((cfg0.win 3).blk t).view.read (Elt Ideal) Y : S512x1024.Idx → EReal) (ix2 k i) = (Y : S512x1024.Idx → EReal) (ix2 k i) := by
  blk_simp [index3 t]
  refine congrArg Y ?_
  clear Y
  funext a
  apply Fin.ext
  fin_cases a
  · blk_simp [index3 t]
  · blk_simp [index3 t]

/-- A block of window 4 read where the block lies in its array. -/
theorem block4 (c : Dev nD) (t : Fin cfg0.N) (k : Fin 512) (i : Fin 1)
    (Y : Buf (Elt Ideal) ((c : Thread nD τ).loc (Pipeline.arrRef spec0 4))) :
    (((cfg0.win 4).blk t).view.read (Elt Ideal) Y : S512x1.Idx → EReal) (ix2 k i) = (Y : S512x1.Idx → EReal) (ix2 k i) := by
  blk_simp [index4 t]
  refine congrArg Y ?_
  clear Y
  funext a
  apply Fin.ext
  fin_cases a
  · blk_simp [index4 t]
  · blk_simp [index4 t]

/-- A block of window 5 read where the block lies in its array. -/
theorem block5 (c : Dev nD) (t : Fin cfg0.N) (k : Fin 1) (i : Fin 512)
    (Y : Buf (Elt Ideal) ((c : Thread nD τ).loc (Pipeline.arrRef spec0 5))) :
    (((cfg0.win 5).blk t).view.read (Elt Ideal) Y : S1x512.Idx → EReal) (ix2 k i) = (Y : S1x512.Idx → EReal) (ix2 k i) := by
  blk_simp [index5 t]
  refine congrArg Y ?_
  clear Y
  funext a
  apply Fin.ext
  fin_cases a
  · blk_simp [index5 t]
  · blk_simp [index5 t]

/-- A block of window 6 read where the block lies in its array. -/
theorem block6 (c : Dev nD) (t : Fin cfg0.N) (k : Fin 512) (i : Fin 1024)
    (Y : Buf (Elt Ideal) ((c : Thread nD τ).loc (Pipeline.arrRef spec0 6))) :
    (((cfg0.win 6).blk t).view.read (Elt Ideal) Y : S512x1024.Idx → EReal) (ix2 k i) = (Y : S512x1024.Idx → EReal) (ix2 k i) := by
  blk_simp [index6 t]
  refine congrArg Y ?_
  clear Y
  funext a
  apply Fin.ext
  fin_cases a
  · blk_simp [index6 t]
  · blk_simp [index6 t]

/-- A block of window 7 read where the block lies in its array. -/
theorem block7 (c : Dev nD) (t : Fin cfg0.N) (k : Fin 512) (i : Fin 1024)
    (Y : Buf (Elt Ideal) ((c : Thread nD τ).loc (Pipeline.arrRef spec0 7))) :
    (((cfg0.win 7).blk t).view.read (Elt Ideal) Y : S512x1024.Idx → EReal) (ix2 k i) = (Y : S512x1024.Idx → EReal) (ix2 k i) := by
  blk_simp [index7 t]
  refine congrArg Y ?_
  clear Y
  funext a
  apply Fin.ext
  fin_cases a
  · blk_simp [index7 t]
  · blk_simp [index7 t]

/-- A block of window 8 read where the block lies in its array. -/
theorem block8 (c : Dev nD) (t : Fin cfg0.N) (k : Fin 1) (i : Fin 1024)
    (Y : Buf (Elt Ideal) ((c : Thread nD τ).loc (Pipeline.arrRef spec0 8))) :
    (((cfg0.win 8).blk t).view.read (Elt Ideal) Y : S1x1024.Idx → EReal) (ix2 k i) = (Y : S1x1024.Idx → EReal) (ix2 k i) := by
  blk_simp [index8 t]
  refine congrArg Y ?_
  clear Y
  funext a
  apply Fin.ext
  fin_cases a
  · blk_simp [index8 t]
  · blk_simp [index8 t]

/-- A block of window 9 read where the block lies in its array. -/
theorem block9 (c : Dev nD) (t : Fin cfg0.N) (k : Fin 1024) (i : Fin 2816)
    (Y : Buf (Elt Ideal) ((c : Thread nD τ).loc (Pipeline.arrRef spec0 9))) :
    (((cfg0.win 9).blk t).view.read (Elt Ideal) Y : S1024x2816.Idx → EReal) (ix2 k i) = (Y : S1024x2816.Idx → EReal) (ix2 k i) := by
  blk_simp [index9 t]
  refine congrArg Y ?_
  clear Y
  funext a
  apply Fin.ext
  fin_cases a
  · blk_simp [index9 t]
  · blk_simp [index9 t]

/-- A block of window 10 read where the block lies in its array. -/
theorem block10 (c : Dev nD) (t : Fin cfg0.N) (k : Fin 1024) (i : Fin 2816)
    (Y : Buf (Elt Ideal) ((c : Thread nD τ).loc (Pipeline.arrRef spec0 10))) :
    (((cfg0.win 10).blk t).view.read (Elt Ideal) Y : S1024x2816.Idx → EReal) (ix2 k i) = (Y : S1024x2816.Idx → EReal) (ix2 k i) := by
  blk_simp [index10 t]
  refine congrArg Y ?_
  clear Y
  funext a
  apply Fin.ext
  fin_cases a
  · blk_simp [index10 t]
  · blk_simp [index10 t]

/-- A block of window 11 read where the block lies in its array. -/
theorem block11 (c : Dev nD) (t : Fin cfg0.N) (k : Fin 2816) (i : Fin 1024)
    (Y : Buf (Elt Ideal) ((c : Thread nD τ).loc (Pipeline.arrRef spec0 11))) :
    (((cfg0.win 11).blk t).view.read (Elt Ideal) Y : S2816x1024.Idx → EReal) (ix2 k i) = (Y : S2816x1024.Idx → EReal) (ix2 k i) := by
  blk_simp [index11 t]
  refine congrArg Y ?_
  clear Y
  funext a
  apply Fin.ext
  fin_cases a
  · blk_simp [index11 t]
  · blk_simp [index11 t]

/-- A block of window 12 read where the block lies in its array. -/
theorem block12 (c : Dev nD) (t : Fin cfg0.N) (k : Fin 1) (i : Fin 1024)
    (Y : Buf (Elt Ideal) ((c : Thread nD τ).loc (Pipeline.arrRef spec0 12))) :
    (((cfg0.win 12).blk t).view.read (Elt Ideal) Y : S1x1024.Idx → EReal) (ix2 k i) = (Y : S1x1024.Idx → EReal) (ix2 k i) := by
  blk_simp [index12 t]
  refine congrArg Y ?_
  clear Y
  funext a
  apply Fin.ext
  fin_cases a
  · blk_simp [index12 t]
  · blk_simp [index12 t]

/-! The blocks' entries, from the arguments. -/

theorem x_at (c : Dev nD) (t : Fin cfg0.N) (r : Fin 512) (k : Fin 1024) :
    (iblk m c 0 t : S512x1024.Idx → EReal) (ix2 r k) = (m ((c : Thread nD τ).loc main_arg0) : S4x8192x1024.Idx → EReal) (ix3 (batchOf t) (tokenOf t r) k) := by
  unfold iblk
  refine (block0 c t r k (V m c (Pipeline.arrRef spec0 0))).trans ?_
  rw [show V m c (Pipeline.arrRef spec0 0) = _ from V_x m c]
  exact x_host _ _ _ _ _ rfl

theorem att_at (c : Dev nD) (t : Fin cfg0.N) (r : Fin 512) (k : Fin 512) :
    (iblk m c 1 t : S1x512x512.Idx → EReal) (ix3 0 k r) = (m ((c : Thread nD τ).loc main_arg1) : S4x8192x512.Idx → EReal) (ix3 (batchOf t) (tokenOf t r) k) := by
  unfold iblk
  refine (block1 c t r k (V m c (Pipeline.arrRef spec0 1))).trans ?_
  rw [show V m c (Pipeline.arrRef spec0 1) = _ from V_att m c]
  exact att_host _ _ _ _

theorem slabBlock_at (c : Dev nD) (t : Fin cfg0.N) (j : Fin 4) (r : Fin 512) (l : Fin 128) (h : 128 * j.val + l.val < 512) :
    (iblk m c 2 t : S4x512x128.Idx → EReal) (ix3 j r l) = (m ((c : Thread nD τ).loc main_arg2) : S4x8192x512.Idx → EReal) (ix3 (batchOf t) (tokenOf t r) ⟨128 * j.val + l.val, h⟩) := by
  unfold iblk
  refine (block2 c t j r l (V m c (Pipeline.arrRef spec0 2))).trans ?_
  rw [show V m c (Pipeline.arrRef spec0 2) = _ from V_slabs m c]
  exact slabs_host _ _ _ _ _ _ rfl h

theorem wGlu_at (c : Dev nD) (t : Fin cfg0.N) (k : Fin 512) (i : Fin 1024) :
    (iblk m c 3 t : S512x1024.Idx → EReal) (ix2 k i) = (m ((c : Thread nD τ).loc main_arg3) : S512x1024.Idx → EReal) (ix2 k i) := by
  unfold iblk
  refine (block3 c t k i (V m c (Pipeline.arrRef spec0 3))).trans ?_
  rw [show V m c (Pipeline.arrRef spec0 3) = _ from V_wGlu m c]

theorem gAtt_at (c : Dev nD) (t : Fin cfg0.N) (k : Fin 512) :
    (iblk m c 4 t : S512x1.Idx → EReal) (ix2 k 0) = (m ((c : Thread nD τ).loc main_arg4) : S512.Idx → EReal) (ix1 k) := by
  unfold iblk
  refine (block4 c t k 0 (V m c (Pipeline.arrRef spec0 4))).trans ?_
  rw [show V m c (Pipeline.arrRef spec0 4) = _ from V_gAtt m c]
  exact col_host _ _

theorem gSsm_at (c : Dev nD) (t : Fin cfg0.N) (k : Fin 512) :
    (iblk m c 5 t : S1x512.Idx → EReal) (ix2 0 k) = (m ((c : Thread nD τ).loc main_arg5) : S512.Idx → EReal) (ix1 k) := by
  unfold iblk
  refine (block5 c t 0 k (V m c (Pipeline.arrRef spec0 5))).trans ?_
  rw [show V m c (Pipeline.arrRef spec0 5) = _ from V_gSsm m c]
  exact row_host _ _

theorem wOutLo_at (c : Dev nD) (t : Fin cfg0.N) (k : Fin 512) (i : Fin 1024) :
    (iblk m c 6 t : S512x1024.Idx → EReal) (ix2 k i) = (m ((c : Thread nD τ).loc main_arg6) : S1024x1024.Idx → EReal) (ix2 (lo k) i) := by
  unfold iblk
  refine (block6 c t k i (V m c (Pipeline.arrRef spec0 6))).trans ?_
  rw [show V m c (Pipeline.arrRef spec0 6) = _ from V_wOutLo m c]
  exact lo_host _ _ _

theorem wOutHi_at (c : Dev nD) (t : Fin cfg0.N) (k : Fin 512) (i : Fin 1024) :
    (iblk m c 7 t : S512x1024.Idx → EReal) (ix2 k i) = (m ((c : Thread nD τ).loc main_arg6) : S1024x1024.Idx → EReal) (ix2 (hi k) i) := by
  unfold iblk
  refine (block7 c t k i (V m c (Pipeline.arrRef spec0 7))).trans ?_
  rw [show V m c (Pipeline.arrRef spec0 7) = _ from V_wOutHi m c]
  exact hi_host _ _ _

theorem g2_at (c : Dev nD) (t : Fin cfg0.N) (k : Fin 1024) :
    (iblk m c 8 t : S1x1024.Idx → EReal) (ix2 0 k) = (m ((c : Thread nD τ).loc main_arg7) : S1024.Idx → EReal) (ix1 k) := by
  unfold iblk
  refine (block8 c t 0 k (V m c (Pipeline.arrRef spec0 8))).trans ?_
  rw [show V m c (Pipeline.arrRef spec0 8) = _ from V_g2 m c]
  exact row2_host _ _

theorem wGate_at (c : Dev nD) (t : Fin cfg0.N) (k : Fin 1024) (i : Fin 2816) :
    (iblk m c 9 t : S1024x2816.Idx → EReal) (ix2 k i) = (m ((c : Thread nD τ).loc main_arg8) : S1024x2816.Idx → EReal) (ix2 k i) := by
  unfold iblk
  refine (block9 c t k i (V m c (Pipeline.arrRef spec0 9))).trans ?_
  rw [show V m c (Pipeline.arrRef spec0 9) = _ from V_wGate m c]

theorem wUp_at (c : Dev nD) (t : Fin cfg0.N) (k : Fin 1024) (i : Fin 2816) :
    (iblk m c 10 t : S1024x2816.Idx → EReal) (ix2 k i) = (m ((c : Thread nD τ).loc main_arg9) : S1024x2816.Idx → EReal) (ix2 k i) := by
  unfold iblk
  refine (block10 c t k i (V m c (Pipeline.arrRef spec0 10))).trans ?_
  rw [show V m c (Pipeline.arrRef spec0 10) = _ from V_wUp m c]

theorem wDown_at (c : Dev nD) (t : Fin cfg0.N) (k : Fin 2816) (i : Fin 1024) :
    (iblk m c 11 t : S2816x1024.Idx → EReal) (ix2 k i) = (m ((c : Thread nD τ).loc main_arg10) : S2816x1024.Idx → EReal) (ix2 k i) := by
  unfold iblk
  refine (block11 c t k i (V m c (Pipeline.arrRef spec0 11))).trans ?_
  rw [show V m c (Pipeline.arrRef spec0 11) = _ from V_wDown m c]

theorem gF_at (c : Dev nD) (t : Fin cfg0.N) (k : Fin 1024) :
    (iblk m c 12 t : S1x1024.Idx → EReal) (ix2 0 k) = (m ((c : Thread nD τ).loc main_arg11) : S1024.Idx → EReal) (ix1 k) := by
  unfold iblk
  refine (block12 c t 0 k (V m c (Pipeline.arrRef spec0 12))).trans ?_
  rw [show V m c (Pipeline.arrRef spec0 12) = _ from V_gF m c]
  exact row2_host _ _

end Cert.TailIdeal.Hand

end
-- ==== Proof.TailRef.lean ====
module

public import proofs.«01_k».proof.Proof.Gen.TailRefIdeal.Read
public import proofs.«01_k».proof.Proof.TailMath
public import Idealize.ShloMosaic.Lib.Pointwise

@[expose] public section

set_option maxRecDepth 16384

noncomputable section

namespace Cert.TailRefIdeal.Hand

open Cert.TailRefIdeal Cert.TailRefIdeal.Read Cert.TailMath Idealize.ShloMosaic Idealize.ShloMosaic.TcCoe Idealize.ShloMosaic.Tactic

/-! ## The reference, read token by token -/

variable (x0 : FVec Ideal S4x8192x1024 .f32) (x1 x2 : FVec Ideal S4x8192x512 .f32) (x3 : FVec Ideal S512x1024 .f32) (x4 x5 : FVec Ideal S512 .f32)
  (x6 : FVec Ideal S1024x1024 .f32) (x7 : FVec Ideal S1024 .f32) (x8 x9 : FVec Ideal S1024x2816 .f32) (x10 : FVec Ideal S2816x1024 .f32)
  (x11 : FVec Ideal S1024 .f32)

/-- The weights and gains among the arguments. -/
def weights : Weights where
  wGlu k i := x3 (ix2 k i)
  gAtt k := x4 (ix1 k)
  gSsm k := x5 (ix1 k)
  wOut k i := x6 (ix2 k i)
  g2 k := x7 (ix1 k)
  wGate k i := x8 (ix2 k i)
  wUp k i := x9 (ix2 k i)
  wDown k i := x10 (ix2 k i)
  gF k := x11 (ix1 k)

/-- A token's row of an array. -/
def tokenRow {n : ℕ} (x : (⟨3, ![4, 8192, n]⟩ : Shape).Idx → EReal) (b : Fin 4) (s : Fin 8192) (k : Fin n) : EReal := x (ix3 b s k)

theorem v12_at (b : Fin 4) (s : Fin 8192) (k : Fin 512) : val_main_v12 (F := Ideal) x2 (ix3 b s k) = gelu (tokenRow x2 b s k) := by
  rw [val_main_v12_apply, val_main_v11_apply, val_main_v10_apply, val_main_cst_2_apply, val_main_v9_apply, val_main_v8_apply, val_main_cst_1_apply,
    val_main_v7_apply, val_main_v6_apply, val_main_v5_apply, val_main_cst_0_apply, val_main_v4_apply, val_main_v3_apply, val_main_v2_apply,
    val_main_cst_apply, val_main_v1_apply, val_main_v0_apply]
  rfl

theorem v13_at (b : Fin 4) (s : Fin 8192) (j : Fin 1024) : val_main_v13 (F := Ideal) x2 x3 (ix3 b s j)
    = vecMat (fun i => gelu (tokenRow x2 b s i)) (fun k i => x3 (ix2 k i)) j := by
  have e1 : ∀ d, lidx_main_v13 (ix3 b s j) d = ix3 b s d := fun d => by funext a; fin_cases a <;> rfl
  have e2 : ∀ d, ridx_main_v13 (ix3 b s j) d = ix2 d j := fun d => by funext a; fin_cases a <;> rfl
  rw [val_main_v13_apply]
  simp only [e1, e2, v12_at]
  rfl

theorem v22_at (b : Fin 4) (s : Fin 8192) (j : Fin 512) : val_main_v22 (F := Ideal) x2 x3 (ix3 b s j)
    = glu (tokenRow x2 b s) (fun k i => x3 (ix2 k i)) j := by
  have e1 : idx_main_v14 (ix3 b s j) = ix3 b s (lo j) := by funext a; fin_cases a <;> rfl
  have e2 : idx_main_v15 (ix3 b s j) = ix3 b s (hi j) := by funext a; fin_cases a <;> rfl
  rw [val_main_v22_apply, val_main_v14_apply, val_main_v21_apply, val_main_v20_apply, val_main_cst_4_apply, val_main_v19_apply, val_main_v18_apply,
    val_main_cst_3_apply, val_main_v17_apply, val_main_v16_apply, val_main_v15_apply, e1, e2, v13_at, v13_at]
  unfold glu
  generalize vecMat (fun i => gelu (tokenRow x2 b s i)) (fun k i => x3 (ix2 k i)) (lo j) = p
  generalize vecMat (fun i => gelu (tokenRow x2 b s i)) (fun k i => x3 (ix2 k i)) (hi j) = q
  show p * Ideal.div (Ideal.ofBits .f32 0x3F800000#32) (Ideal.ofBits .f32 0x3F800000#32 + Ideal.exp (-q)) = p * Ideal.div 1 (1 + Ideal.exp (-q))
  rw [one_bits]

/-- The attention's half, normalised. -/
theorem v35_at (b : Fin 4) (s : Fin 8192) (j : Fin 512) : val_main_v35 (F := Ideal) x1 x4 (ix3 b s j)
    = rms n512 (tokenRow x1 b s) (fun k => x4 (ix1 k)) j := by
  have e1 : idx_main_v25 (idx_main_v31 (ix3 b s j)) = ix2 b s := by funext a; fin_cases a <;> rfl
  have e2 : ∀ k, idx_main_v24 (ix2 b s) k = ix3 b s k := fun k => by funext a; fin_cases a <;> rfl
  have e3 : idx_main_v33 (idx_main_v34 (ix3 b s j)) = ix1 j := by funext a; fin_cases a <;> rfl
  rw [val_main_v35_apply, val_main_v32_apply, val_main_v31_apply, val_main_v30_apply, val_main_v29_apply, val_main_v28_apply, val_main_cst_7_apply,
    val_main_v27_apply, val_main_v26_apply, val_main_cst_6_apply, val_main_v25_apply, e1, val_main_v24_apply, val_main_cst_5_apply,
    val_main_v34_apply, val_main_v33_apply, e3]
  simp only [e2, val_main_v23_apply, Ideal.ofBits_def, Ideal.ofBits_zero_f32, zero_add]
  rfl

/-- The scan's half, normalised. -/
theorem v48_at (b : Fin 4) (s : Fin 8192) (j : Fin 512) : val_main_v48 (F := Ideal) x2 x3 x5 (ix3 b s j)
    = rms n512 (glu (tokenRow x2 b s) fun k i => x3 (ix2 k i)) (fun k => x5 (ix1 k)) j := by
  have e1 : idx_main_v38 (idx_main_v44 (ix3 b s j)) = ix2 b s := by funext a; fin_cases a <;> rfl
  have e2 : ∀ k, idx_main_v37 (ix2 b s) k = ix3 b s k := fun k => by funext a; fin_cases a <;> rfl
  have e3 : idx_main_v46 (idx_main_v47 (ix3 b s j)) = ix1 j := by funext a; fin_cases a <;> rfl
  rw [val_main_v48_apply, val_main_v45_apply, val_main_v44_apply, val_main_v43_apply, val_main_v42_apply, val_main_v41_apply, val_main_cst_10_apply,
    val_main_v40_apply, val_main_v39_apply, val_main_cst_9_apply, val_main_v38_apply, e1, val_main_v37_apply, val_main_cst_8_apply,
    val_main_v47_apply, val_main_v46_apply, e3]
  simp only [e2, val_main_v36_apply, v22_at, Ideal.ofBits_def, Ideal.ofBits_zero_f32, zero_add]
  rfl

theorem v49_lo (b : Fin 4) (s : Fin 8192) (k : Fin 512) : val_main_v49 (F := Ideal) x1 x2 x3 x4 x5 (ix3 b s (lo k))
    = rms n512 (tokenRow x1 b s) (fun k => x4 (ix1 k)) k := by
  rw [← v35_at]
  unfold val_main_v49
  generalize val_main_v35 (F := Ideal) x1 x4 = u
  generalize val_main_v48 (F := Ideal) x2 x3 x5 = v
  have hk := k.isLt
  unfold lo
  pointwise

theorem v49_hi (b : Fin 4) (s : Fin 8192) (k : Fin 512) : val_main_v49 (F := Ideal) x1 x2 x3 x4 x5 (ix3 b s (hi k))
    = rms n512 (glu (tokenRow x2 b s) fun k i => x3 (ix2 k i)) (fun k => x5 (ix1 k)) k := by
  rw [← v48_at]
  unfold val_main_v49
  generalize val_main_v35 (F := Ideal) x1 x4 = u
  generalize val_main_v48 (F := Ideal) x2 x3 x5 = v
  have hk := k.isLt
  unfold hi
  pointwise

/-- The token after its mixers. -/
theorem v51_at (b : Fin 4) (s : Fin 8192) (j : Fin 1024) : val_main_v51 (F := Ideal) x0 x1 x2 x3 x4 x5 x6 (ix3 b s j)
    = mixed (weights x3 x4 x5 x6 x7 x8 x9 x10 x11) (tokenRow x0 b s) (tokenRow x1 b s) (tokenRow x2 b s) j := by
  have e1 : ∀ d, lidx_main_v50 (ix3 b s j) d = ix3 b s d := fun d => by funext a; fin_cases a <;> rfl
  have e2 : ∀ d, ridx_main_v50 (ix3 b s j) d = ix2 d j := fun d => by funext a; fin_cases a <;> rfl
  have h : val_main_v50 (F := Ideal) x1 x2 x3 x4 x5 x6 (ix3 b s j)
      = vecMat (fun k => val_main_v49 (F := Ideal) x1 x2 x3 x4 x5 (ix3 b s k)) (fun k i => x6 (ix2 k i)) j := by
    rw [val_main_v50_apply]
    simp only [e1, e2]
    rfl
  rw [val_main_v51_apply, h, vecMat_halves]
  simp only [v49_lo, v49_hi]
  exact (add_assoc _ _ _).symm

/-- The same normalised. -/
theorem v64_at (b : Fin 4) (s : Fin 8192) (j : Fin 1024) : val_main_v64 (F := Ideal) x0 x1 x2 x3 x4 x5 x6 x7 (ix3 b s j)
    = rms n1024 (mixed (weights x3 x4 x5 x6 x7 x8 x9 x10 x11) (tokenRow x0 b s) (tokenRow x1 b s) (tokenRow x2 b s)) (fun k => x7 (ix1 k)) j := by
  have e1 : idx_main_v54 (idx_main_v60 (ix3 b s j)) = ix2 b s := by funext a; fin_cases a <;> rfl
  have e2 : ∀ k, idx_main_v53 (ix2 b s) k = ix3 b s k := fun k => by funext a; fin_cases a <;> rfl
  have e3 : idx_main_v62 (idx_main_v63 (ix3 b s j)) = ix1 j := by funext a; fin_cases a <;> rfl
  rw [val_main_v64_apply, val_main_v61_apply, val_main_v60_apply, val_main_v59_apply, val_main_v58_apply, val_main_v57_apply, val_main_cst_13_apply,
    val_main_v56_apply, val_main_v55_apply, val_main_cst_12_apply, val_main_v54_apply, e1, val_main_v53_apply, val_main_cst_11_apply,
    val_main_v63_apply, val_main_v62_apply, e3]
  simp only [e2, val_main_v52_apply, v51_at _ _ _ _ _ _ _ x7 x8 x9 x10 x11, Ideal.ofBits_def, Ideal.ofBits_zero_f32, zero_add]
  rfl

theorem v65_at (b : Fin 4) (s : Fin 8192) (j : Fin 2816) : val_main_v65 (F := Ideal) x0 x1 x2 x3 x4 x5 x6 x7 x8 (ix3 b s j)
    = vecMat (rms n1024 (mixed (weights x3 x4 x5 x6 x7 x8 x9 x10 x11) (tokenRow x0 b s) (tokenRow x1 b s) (tokenRow x2 b s)) fun k => x7 (ix1 k)) (fun k i => x8 (ix2 k i)) j := by
  have e1 : ∀ d, lidx_main_v65 (ix3 b s j) d = ix3 b s d := fun d => by funext a; fin_cases a <;> rfl
  have e2 : ∀ d, ridx_main_v65 (ix3 b s j) d = ix2 d j := fun d => by funext a; fin_cases a <;> rfl
  rw [val_main_v65_apply]
  simp only [e1, e2, v64_at _ _ _ _ _ _ _ x7 x8 x9 x10 x11]
  rfl

theorem v67_at (b : Fin 4) (s : Fin 8192) (j : Fin 2816) : val_main_v67 (F := Ideal) x0 x1 x2 x3 x4 x5 x6 x7 x9 (ix3 b s j)
    = vecMat (rms n1024 (mixed (weights x3 x4 x5 x6 x7 x8 x9 x10 x11) (tokenRow x0 b s) (tokenRow x1 b s) (tokenRow x2 b s)) fun k => x7 (ix1 k)) (fun k i => x9 (ix2 k i)) j := by
  have e1 : ∀ d, lidx_main_v67 (ix3 b s j) d = ix3 b s d := fun d => by funext a; fin_cases a <;> rfl
  have e2 : ∀ d, ridx_main_v67 (ix3 b s j) d = ix2 d j := fun d => by funext a; fin_cases a <;> rfl
  rw [val_main_v67_apply]
  simp only [e1, e2, v64_at _ _ _ _ _ _ _ x7 x8 x9 x10 x11]
  rfl

theorem v66_at (b : Fin 4) (s : Fin 8192) (j : Fin 2816) : val_main_v66 (F := Ideal) x0 x1 x2 x3 x4 x5 x6 x7 x8 (ix3 b s j)
    = val_main_v65 (F := Ideal) x0 x1 x2 x3 x4 x5 x6 x7 x8 (ix3 b s j) * Ideal.logistic (val_main_v65 (F := Ideal) x0 x1 x2 x3 x4 x5 x6 x7 x8 (ix3 b s j)) := by
  rw [val_main_v66_apply, val_main_call0_v5_apply, val_main_call0_v4_apply, val_main_call0_cst_0_apply, val_main_call0_v3_apply,
    val_main_call0_v2_apply, val_main_call0_cst_apply, val_main_call0_v1_apply, val_main_call0_v0_apply]
  generalize val_main_v65 (F := Ideal) x0 x1 x2 x3 x4 x5 x6 x7 x8 (ix3 b s j) = q
  show q * Ideal.div (Ideal.ofBits .f32 0x3F800000#32) (Ideal.ofBits .f32 0x3F800000#32 + Ideal.exp (-q)) = q * Ideal.div 1 (1 + Ideal.exp (-q))
  rw [one_bits]

/-- The token after the feed-forward part. -/
theorem v70_at (b : Fin 4) (s : Fin 8192) (j : Fin 1024) : val_main_v70 (F := Ideal) x0 x1 x2 x3 x4 x5 x6 x7 x8 x9 x10 (ix3 b s j)
    = ffn (mixed (weights x3 x4 x5 x6 x7 x8 x9 x10 x11) (tokenRow x0 b s) (tokenRow x1 b s) (tokenRow x2 b s)) (rms n1024 (mixed (weights x3 x4 x5 x6 x7 x8 x9 x10 x11) (tokenRow x0 b s) (tokenRow x1 b s) (tokenRow x2 b s)) fun k => x7 (ix1 k))
      (fun k i => x8 (ix2 k i)) (fun k i => x9 (ix2 k i)) (fun k i => x10 (ix2 k i)) j := by
  have e1 : ∀ d, lidx_main_v69 (ix3 b s j) d = ix3 b s d := fun d => by funext a; fin_cases a <;> rfl
  have e2 : ∀ d, ridx_main_v69 (ix3 b s j) d = ix2 d j := fun d => by funext a; fin_cases a <;> rfl
  rw [val_main_v70_apply, val_main_v69_apply, v51_at _ _ _ _ _ _ _ x7 x8 x9 x10 x11]
  simp only [e1, e2, val_main_v68_apply, v66_at, v65_at _ _ _ _ _ _ _ x7 x8 x9 x10 x11, v67_at _ _ _ _ _ _ _ x7 x8 x9 x10 x11]
  rfl

/-- The result, before its rows are numbered through. -/
theorem v83_at (b : Fin 4) (s : Fin 8192) (j : Fin 1024) : val_main_v83 (F := Ideal) x0 x1 x2 x3 x4 x5 x6 x7 x8 x9 x10 x11 (ix3 b s j)
    = rms n1024 (ffn (mixed (weights x3 x4 x5 x6 x7 x8 x9 x10 x11) (tokenRow x0 b s) (tokenRow x1 b s) (tokenRow x2 b s)) (rms n1024 (mixed (weights x3 x4 x5 x6 x7 x8 x9 x10 x11) (tokenRow x0 b s) (tokenRow x1 b s) (tokenRow x2 b s)) fun k => x7 (ix1 k))
      (fun k i => x8 (ix2 k i)) (fun k i => x9 (ix2 k i)) (fun k i => x10 (ix2 k i))) (fun k => x11 (ix1 k)) j := by
  have e1 : idx_main_v73 (idx_main_v79 (ix3 b s j)) = ix2 b s := by funext a; fin_cases a <;> rfl
  have e2 : ∀ k, idx_main_v72 (ix2 b s) k = ix3 b s k := fun k => by funext a; fin_cases a <;> rfl
  have e3 : idx_main_v81 (idx_main_v82 (ix3 b s j)) = ix1 j := by funext a; fin_cases a <;> rfl
  rw [val_main_v83_apply, val_main_v80_apply, val_main_v79_apply, val_main_v78_apply, val_main_v77_apply, val_main_v76_apply, val_main_cst_16_apply,
    val_main_v75_apply, val_main_v74_apply, val_main_cst_15_apply, val_main_v73_apply, e1, val_main_v72_apply, val_main_cst_14_apply,
    val_main_v82_apply, val_main_v81_apply, e3]
  simp only [e2, val_main_v71_apply, v70_at _ _ _ _ _ _ _ x7 x8 x9 x10 x11, Ideal.ofBits_def, Ideal.ofBits_zero_f32, zero_add]
  rfl

/-- An entry of the reference's result. -/
theorem result_at (b : Fin 4) (s : Fin 8192) (r : Fin 32768) (j : Fin 1024) (hr : r.val = 8192 * b.val + s.val) :
    val_main_v84 (F := Ideal) x0 x1 x2 x3 x4 x5 x6 x7 x8 x9 x10 x11 (ix2 r j) = result (weights x3 x4 x5 x6 x7 x8 x9 x10 x11) (tokenRow x0 b s) (tokenRow x1 b s) (tokenRow x2 b s) j := by
  have e : idx_main_v84 (ix2 r j) = ix3 b s j := by
    have hb := b.isLt
    have hs := s.isLt
    have hj := j.isLt
    funext a
    fin_cases a
    · exact Fin.ext (show (r.val * 1024 + j.val) / 8388608 = b.val by omega)
    · exact Fin.ext (show (r.val * 1024 + j.val) / 1024 % 8192 = s.val by omega)
    · exact Fin.ext (show (r.val * 1024 + j.val) % 1024 = j.val by omega)
  rw [val_main_v84_apply, e, v83_at]
  rfl

end Cert.TailRefIdeal.Hand

end
-- ==== Proof.TailEnd.lean ====
module

public import proofs.«01_k».proof.Proof.TailBlock
public import proofs.«01_k».proof.Proof.TailBlocks
public import proofs.«01_k».proof.Proof.TailRef

@[expose] public section

set_option maxRecDepth 16384

noncomputable section

namespace Cert.TailIdeal.Hand

open Cert.TailIdeal Cert.TailIdeal.Gen Cert.TailMath Idealize.ShloMosaic Idealize.ShloMosaic.TcCoe Idealize.ShloMosaic.Tactic Idealize.SL.Sem
open Cert.TailRefIdeal.Hand (weights tokenRow result_at)

variable (m : (ℓ : Loc nD τ sig) → Buf (Elt Ideal) ℓ)

/-- The reference's result on the kernel's arguments. -/
def refResult (c : Dev nD) : Vec Ideal S32768x1024 .f32 :=
  Cert.TailRefIdeal.Read.val_main_v84 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

/-- What the body writes at a grid point is the reference's result at the rows of that point. -/
theorem block_ref (c : Dev nD) (t : Fin cfg0.N) (r : Fin 512) (j : Fin 1024) :
    out0_13 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix2 r j) = refResult m c (ix2 (rowOf t r) j) :=
  (out_at
    (weights (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)))
    (tokenRow (m ((c : Thread nD τ).loc main_arg0)) (batchOf t) (tokenOf t r)) (tokenRow (m ((c : Thread nD τ).loc main_arg1)) (batchOf t) (tokenOf t r))
    (tokenRow (m ((c : Thread nD τ).loc main_arg2)) (batchOf t) (tokenOf t r)) r j
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t)
    (fun k => x_at m c t r k) (fun k => att_at m c t r k) (fun s l => slabBlock_at m c t s r l _) (fun k i => wGlu_at m c t k i) (fun k => gAtt_at m c t k)
    (fun k => gSsm_at m c t k) (fun k i => wOutLo_at m c t k i) (fun k i => wOutHi_at m c t k i) (fun k => g2_at m c t k) (fun k i => wGate_at m c t k i)
    (fun k i => wUp_at m c t k i) (fun k i => wDown_at m c t k i) (fun k => gF_at m c t k)).trans
  (result_at _ _ _ _ _ _ _ _ _ _ _ _ (batchOf t) (tokenOf t r) (rowOf t r) j rfl).symm

/-- The output array at the end. -/
theorem out_final (c : Dev nD) : (dats m 0 c).arrAt 13 cfg0.N = refResult m c := by
  refine (dats m 0 c).arrAt_eq_of_covers 13 _ (by decide +kernel) fun t hf (y : S512x1024.Idx) => ?_
  blk_simp
  rw [after0_13]
  have hy : y = ix2 (y 0) (y 1) := by funext a; fin_cases a <;> rfl
  refine ((congrArg _ hy).trans (block_ref m c t (y 0) (y 1))).trans (congrArg (refResult m c) ?_)
  unfold rowOf batchOf tokenOf
  funext a
  apply Fin.ext
  fin_cases a
  · blk_simp [index13 t]
    show 8192 * (grid0.coords t 0).val + (512 * (grid0.coords t 1).val + (y 0).val) = ((grid0.coords t 0).val * 16 + (grid0.coords t 1).val) * 512 + (y 0).val
    omega
  · blk_simp [index13 t]
    rfl

end Cert.TailIdeal.Hand

end
-- ==== Proof.lean ====
module

public import proofs.«01_k».proof.Defs
public import proofs.«01_k».proof.Proof.Gen.Fox
public import proofs.«01_k».proof.Proof.Gen.FoxIdeal
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.FoxFrame
public import proofs.«01_k».proof.Proof.FoxIdealFrame
public import proofs.«01_k».proof.Proof.FoxEnd
public import proofs.«01_k».proof.Proof.TailEnd
public import Idealize.ShloMosaic.Lib.Claim
public import Idealize.ShloMosaic.Adequacy
public import Idealize.ShloMosaic.Init

@[expose] public section

noncomputable section

namespace Cert.Proof

open Idealize.ShloMosaic Idealize.SL.Sem

/-- The reference runs and leaves its arguments unchanged; it has no semaphore. -/
theorem frame_ref : Cert.quiescent_FoxRefIdeal := fun m ρ _ =>
  (θ_run Cert.FoxRefIdeal.defs _ _).mono
    (fun r h => ⟨fun c => (h c).2, Idealize.ShloMosaic.sem_eq_zero_of_no_sems (by decide) r.2⟩)
    (Cert.FoxRefIdeal.Value.run (F := Ideal) m ρ)

/-- The ideal kernel and the ideal reference end with one result. -/
theorem value [Cert.Pre_finite_qkc.Facts] : Cert.algebraic_FoxIdeal_FoxRefIdeal_pre_finite_qkc := fun m ρ m' ρ' hm hag =>
  ⟨Cert.FoxIdeal.Hand.refResult m, Cert.FoxIdeal.Hand.value_run m ρ _ (Cert.FoxIdeal.Hand.blocks_are m hm),
    (θ_run Cert.FoxRefIdeal.defs _ _).mono
      (fun r h c => ⟨by
        obtain ⟨e0, e1, e2, e3⟩ := hag c
        rw [(h c).1, Cert.FoxRefIdeal.Read.val_main_v30_eq, e0, e1, e2, e3]
        rfl, (h c).2⟩)
      (Cert.FoxRefIdeal.Value.run (F := Ideal) m' ρ')⟩

/-- The second reference runs and leaves its arguments unchanged; it has no semaphore. -/
theorem tail_frame_ref : Cert.quiescent_TailRefIdeal := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

/-- The second ideal kernel and its ideal reference end with one result. -/
theorem tail_value : Cert.algebraic_TailIdeal_TailRefIdeal := fun m ρ m' ρ' hm hag =>
  ⟨Cert.TailIdeal.Hand.refResult m,
    (θ_run Cert.TailIdeal.defs _ _).mono (fun r h c => ⟨(h c).1.trans (Cert.TailIdeal.Hand.out_final m c), (h c).2⟩)
      (Cert.TailIdeal.Value.run_blocks (F := Ideal) m ρ),
    (θ_run Cert.TailRefIdeal.defs _ _).mono
      (fun r h c => ⟨by
        obtain ⟨e0, e1, e2, e3, e4, e5, e6, e7, e8, e9, e10, e11⟩ := hag c
        rw [(h c).1, Cert.TailRefIdeal.Read.val_main_v84_eq]
        show Cert.TailRefIdeal.Read.val_main_v84 (F := Ideal)
          (m' ((c.tc : Thread Cert.TailRefIdeal.nD Cert.TailRefIdeal.τ).loc Cert.TailRefIdeal.main_arg0))
          (m' ((c.tc : Thread Cert.TailRefIdeal.nD Cert.TailRefIdeal.τ).loc Cert.TailRefIdeal.main_arg1))
          (m' ((c.tc : Thread Cert.TailRefIdeal.nD Cert.TailRefIdeal.τ).loc Cert.TailRefIdeal.main_arg2))
          (m' ((c.tc : Thread Cert.TailRefIdeal.nD Cert.TailRefIdeal.τ).loc Cert.TailRefIdeal.main_arg3))
          (m' ((c.tc : Thread Cert.TailRefIdeal.nD Cert.TailRefIdeal.τ).loc Cert.TailRefIdeal.main_arg4))
          (m' ((c.tc : Thread Cert.TailRefIdeal.nD Cert.TailRefIdeal.τ).loc Cert.TailRefIdeal.main_arg5))
          (m' ((c.tc : Thread Cert.TailRefIdeal.nD Cert.TailRefIdeal.τ).loc Cert.TailRefIdeal.main_arg6))
          (m' ((c.tc : Thread Cert.TailRefIdeal.nD Cert.TailRefIdeal.τ).loc Cert.TailRefIdeal.main_arg7))
          (m' ((c.tc : Thread Cert.TailRefIdeal.nD Cert.TailRefIdeal.τ).loc Cert.TailRefIdeal.main_arg8))
          (m' ((c.tc : Thread Cert.TailRefIdeal.nD Cert.TailRefIdeal.τ).loc Cert.TailRefIdeal.main_arg9))
          (m' ((c.tc : Thread Cert.TailRefIdeal.nD Cert.TailRefIdeal.τ).loc Cert.TailRefIdeal.main_arg10))
          (m' ((c.tc : Thread Cert.TailRefIdeal.nD Cert.TailRefIdeal.τ).loc Cert.TailRefIdeal.main_arg11)) = _
        rw [e0, e1, e2, e3, e4, e5, e6, e7, e8, e9, e10, e11]
        rfl, (h c).2⟩)
      (Cert.TailRefIdeal.Value.run (F := Ideal) m' ρ')⟩

/-- All the claims. -/
theorem claim : Cert.Claim :=
  haveI := Cert.FoxIdeal.Hand.pre_facts
  ⟨Cert.Fox.Gen.facts, Cert.FoxIdeal.Gen.facts, Cert.FoxRefIdeal.Gen.facts, Cert.Tail.Gen.facts, Cert.TailIdeal.Gen.facts, Cert.TailRefIdeal.Gen.facts,
    Cert.FoxIdeal.Hand.pre_facts,
    fun m ρ _ => Cert.Fox.Hand.frame_all m ρ, fun m ρ _ => Cert.FoxIdeal.Hand.frame_all m ρ, fun m ρ _ => Cert.FoxIdeal.Hand.frame_all m ρ,
    frame_ref, fun m ρ _ => frame_ref m ρ trivial,
    fun m ρ _ => Cert.Tail.Gen.frame m ρ, fun m ρ _ => Cert.TailIdeal.Gen.frame m ρ, tail_frame_ref,
    IdealRules.named_const.statement Cert.FoxIdeal.κ "mask" .f32 0xF149F2CA#32 ⊥ rfl, value,
    trivial, tail_value⟩

end Cert.Proof

end
